-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_finite [hPre_all_finite : Cert.Pre_all_finite.Facts] (m : (ℓ : Loc Cert.KernelIdeal.nD Cert.KernelIdeal.τ Cert.KernelIdeal.sig) → Buf (Elt Ideal) ℓ) : Prop :=
  ∀ c : Dev Cert.KernelIdeal.nD,
    (Cert.Pre_all_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_finite [hPre_all_finite : Cert.Pre_all_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_finite [hKernelIdeal : Cert.KernelIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_finite [hReferenceIdeal : Cert.ReferenceIdeal.Facts] [hPre_all_finite : Cert.Pre_all_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_finite [hKernelIdeal : Cert.KernelIdeal.Facts] [hReferenceIdeal : Cert.ReferenceIdeal.Facts] [hPre_all_finite : Cert.Pre_all_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)) (v2 : (c : Dev Cert.KernelIdeal.nD) → Buf (Elt Ideal) ((c.tc : Thread Cert.KernelIdeal.nD Cert.KernelIdeal.τ).loc Cert.KernelIdeal.main_v0_2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_v0_2) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_v1) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_finite : Cert.Pre_all_finite.Facts),
    quiescent_Kernel (hKernel := hKernel)
    ∧ quiescent_KernelIdeal (hKernelIdeal := hKernelIdeal)
    ∧ quiescent_KernelIdeal_pre_all_finite (hKernelIdeal := hKernelIdeal) (hPre_all_finite := hPre_all_finite)
    ∧ quiescent_ReferenceIdeal (hReferenceIdeal := hReferenceIdeal)
    ∧ quiescent_ReferenceIdeal_pre_all_finite (hReferenceIdeal := hReferenceIdeal) (hPre_all_finite := hPre_all_finite)
    ∧ preserves_Kernel_KernelIdeal
    ∧ algebraic_KernelIdeal_ReferenceIdeal_pre_all_finite (hKernelIdeal := hKernelIdeal) (hReferenceIdeal := hReferenceIdeal) (hPre_all_finite := hPre_all_finite)
-- ==== Pre_all_finite.lean ====
abbrev S32768x4096 : Shape := ⟨2, ![32768, 4096]⟩
abbrev S64x4096 : Shape := ⟨2, ![64, 4096]⟩
abbrev S_ : Shape := ⟨0, ![]⟩

class Facts : Prop where
  bcast_S_S32768x4096 : S_.BroadcastsInDim S32768x4096 (![] : Fin 0 → Fin S32768x4096.rank)
  reducesTo_S32768x4096_S_d0_1 : S32768x4096.ReducesTo [0, 1] S_
  h_S_ : 0 < S_.numel
  bcast_S_S64x4096 : S_.BroadcastsInDim S64x4096 (![] : Fin 0 → Fin S64x4096.rank)
  reducesTo_S64x4096_S_d0_1 : S64x4096.ReducesTo [0, 1] S_

variable [Facts]

def fn {F : FTy → Type} [FloatOps F] (main_arg0 : FVec F S32768x4096 .f32) (main_arg1 : FVec F S64x4096 .f32) : IVec S_ 1 :=
  let main_v0 : FVec F S32768x4096 .f32 := Host.absf main_arg0
  let main_cst : FVec F S_ .f32 := constant S_ .f32 0x7F800000#32
  let main_v1 : FVec F S32768x4096 .f32 := broadcastInDim S32768x4096 ![] bcast_S_S32768x4096 main_cst
  let main_v2 : IVec S32768x4096 1 := cmpf .olt main_v0 main_v1
  let main_c : IVec S_ 1 := constantI S_ 1 1#1
  let main_v3 : IVec S_ 1 := (fun x v => Host.reduce IntOp.andi x v reducesTo_S32768x4096_S_d0_1 h_S_) main_v2 main_c
  let main_v4 : FVec F S64x4096 .f32 := Host.absf main_arg1
  let main_cst_0 : FVec F S_ .f32 := constant S_ .f32 0x7F800000#32
  let main_v5 : FVec F S64x4096 .f32 := broadcastInDim S64x4096 ![] bcast_S_S64x4096 main_cst_0
  let main_v6 : IVec S64x4096 1 := cmpf .olt main_v4 main_v5
  let main_c_1 : IVec S_ 1 := constantI S_ 1 1#1
  let main_v7 : IVec S_ 1 := (fun x v => Host.reduce IntOp.andi x v reducesTo_S64x4096_S_d0_1 h_S_) main_v6 main_c_1
  let main_v8 : IVec S_ 1 := andi main_v3 main_v7
  main_v8
-- ==== Kernel.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S32768 : Shape := ⟨1, ![32768]⟩
abbrev S32768x1 : Shape := ⟨2, ![32768, 1]⟩
abbrev S256x4096 : Shape := ⟨2, ![256, 4096]⟩
abbrev S1024x64 : Shape := ⟨2, ![1024, 64]⟩
abbrev S1024 : Shape := ⟨1, ![1024]⟩
abbrev S1024x1 : Shape := ⟨2, ![1024, 1]⟩
abbrev S256x64 : Shape := ⟨2, ![256, 64]⟩

abbrev nBuf : Space → Nat
  | .hbm => 7
  | .vmem => 16
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .i32⟩
  | .hbm, ⟨4, _⟩ => ⟨S32768, .f32⟩
  | .hbm, ⟨5, _⟩ => ⟨S32768x64, .f32⟩
  | .hbm, ⟨6, _⟩ => ⟨S32768x1, .f32⟩
  | .local _ .vmem, ⟨0, _⟩ => ⟨S256x4096, .f32⟩
  | .local _ .vmem, ⟨1, _⟩ => ⟨S256x4096, .f32⟩
  | .local _ .vmem, ⟨2, _⟩ => ⟨S256x4096, .f32⟩
  | .local _ .vmem, ⟨3, _⟩ => ⟨S256x4096, .f32⟩
  | .local _ .vmem, ⟨4, _⟩ => ⟨S256x4096, .f32⟩
  | .local _ .vmem, ⟨5, _⟩ => ⟨S256x4096, .f32⟩
  | .local _ .vmem, ⟨6, _⟩ => ⟨S256x4096, .f32⟩
  | .local _ .vmem, ⟨7, _⟩ => ⟨S256x4096, .f32⟩
  | .local _ .vmem, ⟨8, _⟩ => ⟨S4096x64, .f32⟩
  | .local _ .vmem, ⟨9, _⟩ => ⟨S1024x64, .i32⟩
  | .local _ .vmem, ⟨10, _⟩ => ⟨S1024x64, .i32⟩
  | .local _ .vmem, ⟨11, _⟩ => ⟨S1024, .f32⟩
  | .local _ .vmem, ⟨12, _⟩ => ⟨S1024, .f32⟩
  | .local _ .vmem, ⟨13, _⟩ => ⟨S1024x64, .f32⟩
  | .local _ .vmem, ⟨14, _⟩ => ⟨S1024x64, .f32⟩
  | .local _ .vmem, ⟨15, _⟩ => ⟨S1024x64, .f32⟩
  | _, _ => ⟨S32768x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0_0 : Ref sig .tc := ⟨.hbm, 3, rfl⟩
abbrev main_call0_v1_1 : Ref sig .tc := ⟨.hbm, 4, rfl⟩
abbrev main_v0_2 : Ref sig .tc := ⟨.hbm, 5, rfl⟩
abbrev main_v0_1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨1, ![33], ![false]⟩

def cc0_transform_0 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.muli v0 c4_i32
  let c0_i32 : BitVec 32 := 0#32
  let v2 : BitVec 32 := Scalar.addi v1 c0_i32
  let c0_i32_0 : BitVec 32 := 0#32
  let c0_i32_1 : BitVec 32 := 0#32
  ![v2.toNat, c0_i32_0.toNat]

def cc0_transform_1 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.muli v0 c4_i32
  let c1_i32 : BitVec 32 := 1#32
  let v2 : BitVec 32 := Scalar.addi v1 c1_i32
  let c0_i32 : BitVec 32 := 0#32
  let c0_i32_0 : BitVec 32 := 0#32
  ![v2.toNat, c0_i32.toNat]

def cc0_transform_2 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.muli v0 c4_i32
  let c2_i32 : BitVec 32 := 2#32
  let v2 : BitVec 32 := Scalar.addi v1 c2_i32
  let c0_i32 : BitVec 32 := 0#32
  let c0_i32_0 : BitVec 32 := 0#32
  ![v2.toNat, c0_i32.toNat]

def cc0_transform_3 (i : grid0.Coords) : Fin 2 → Nat :=
  let arg0 : BitVec 32 := BitVec.ofNat 32 (i 0).val
  let c31_i32 : BitVec 32 := 31#32
  let v0 : BitVec 32 := Scalar.minsi arg0 c31_i32
  let c4_i32 : BitVec 32 := 4#32
  let v1 : BitVec 32 := Scalar.muli v0 c4_i32
  let c3_i32 : BitVec 32 := 3#32
  let v2 : BitVec 32 := Scalar.addi v1 c3_i32
  let c0_i32 : BitVec 32 := 0#32
  let c0_i32_0 : BitVec 32 := 0#32
  ![v2.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_6 (i : grid0.Coords) : Fin 1 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  ![v1.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x64 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1024x64 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S32768x4096 : Shape := ⟨2, ![32768, 4096]⟩
abbrev S64x4096 : Shape := ⟨2, ![64, 4096]⟩
abbrev S4096x64 : Shape := ⟨2, ![4096, 64]⟩
abbrev S32768x64 : Shape := ⟨2, ![32768, 64]⟩
abbrev S_ : Shape := ⟨0, ![]⟩
abbrev S32768 : Shape := ⟨1, ![32768]⟩
abbrev S32768x1 : Shape := ⟨2, ![32768, 1]⟩
abbrev S1x64 : Shape := ⟨2, ![1, 64]⟩

abbrev nBuf : Space → Nat
  | .hbm => 33
  | .vmem => 0
  | .smem => 0
  | _ => 0

abbrev bufTy : (tb : Table) → Fin (tcTables nBuf tb) → BufTy
  | .hbm, ⟨0, _⟩ => ⟨S32768x4096, .f32⟩
  | .hbm, ⟨1, _⟩ => ⟨S64x4096, .f32⟩
  | .hbm, ⟨2, _⟩ => ⟨S4096x64, .f32⟩
  | .hbm, ⟨3, _⟩ => ⟨S32768x64, .f32⟩
  | .hbm, ⟨4, _⟩ => ⟨S_, .f32⟩
  | .hbm, ⟨5, _⟩ => ⟨S32768, .f32⟩
  | .hbm, ⟨6, _⟩ => ⟨S_, .f32⟩
  | .hbm, ⟨7, _⟩ => ⟨S32768, .f32⟩
  | .hbm, ⟨8, _⟩ => ⟨S32768, .f32⟩
  | .hbm, ⟨9, _⟩ => ⟨S32768x1, .f32⟩
  | .hbm, ⟨10, _⟩ => ⟨S32768x64, .f32⟩
  | .hbm, ⟨11, _⟩ => ⟨S32768x64, .f32⟩
  | .hbm, ⟨12, _⟩ => ⟨S32768x64, .f32⟩
  | .hbm, ⟨13, _⟩ => ⟨S_, .f32⟩
  | .hbm, ⟨14, _⟩ => ⟨S32768, .f32⟩
  | .hbm, ⟨15, _⟩ => ⟨S32768x1, .f32⟩
  | .hbm, ⟨16, _⟩ => ⟨S32768x64, .f32⟩
  | .hbm, ⟨17, _⟩ => ⟨S32768x64, .f32⟩
  | .hbm, ⟨18, _⟩ => ⟨S32768x64, .i32⟩
  | .hbm, ⟨19, _⟩ => ⟨S_, .f32⟩
  | .hbm, ⟨20, _⟩ => ⟨S_, .i32⟩
  | .hbm, ⟨21, _⟩ => ⟨S32768, .f32⟩
  | .hbm, ⟨22, _⟩ => ⟨S32768, .i32⟩
  | .hbm, ⟨23, _⟩ => ⟨S32768x1, .i32⟩
  | .hbm, ⟨24, _⟩ => ⟨S1x64, .i32⟩
  | .hbm, ⟨25, _⟩ => ⟨S32768x64, .i32⟩
  | .hbm, ⟨26, _⟩ => ⟨S32768x64, .i32⟩
  | .hbm, ⟨27, _⟩ => ⟨S32768x64, .i1⟩
  | .hbm, ⟨28, _⟩ => ⟨S32768x64, .f32⟩
  | .hbm, ⟨29, _⟩ => ⟨S32768x64, .i32⟩
  | .hbm, ⟨30, _⟩ => ⟨S_, .f32⟩
  | .hbm, ⟨31, _⟩ => ⟨S32768, .f32⟩
  | .hbm, ⟨32, _⟩ => ⟨S32768x1, .f32⟩
  | _, _ => ⟨S32768x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_1 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_call0_v0 : Ref sig .tc := ⟨.hbm, 18, rfl⟩
abbrev main_call0_cst : Ref sig .tc := ⟨.hbm, 19, rfl⟩
abbrev main_call0_c : Ref sig .tc := ⟨.hbm, 20, rfl⟩
abbrev main_call0_v1_0 : Ref sig .tc := ⟨.hbm, 21, rfl⟩
abbrev main_v13 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_v14 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩

abbrev nD : Nat := 1
abbrev τ : Topo := Topo.v7x

variable {F : FTy → Type} [FloatOps F]
-- ==== Proof.Body.lean ====
/-
  ONE RUN OF THE KERNEL'S BODY. On whole staging buffers the body reads its scratch buffer (the logits of the block before), leaves the
  one-hot rows, the top probabilities and the logits read there in the three result buffers, and then fills the scratch with the four
  products of this point's row blocks with the transposed weights.
-/
module

public import proofs.«01_k».proof.Proof.Gen.KernelIdeal.Frame
public import proofs.«01_k».proof.Proof.Gen.KernelIdeal.Skeleton
public import Idealize.ShloMosaic.Lib.Pipeline.ValueKit
public import Idealize.ShloMosaic.Lib.WritesUnit

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- What the body leaves in the scratch: the products of the four row blocks with the weights, one under the other. -/
def product (x0 x1 x2 x3 : Vec F S256x4096 .f32) (w : Vec F S4096x64 .f32) : Vec F S1024x64 .f32 :=
  k0_pay1 (k0_pay5 x0 w) (k0_pay6 x1 w) x2 w x3 w

/-- A buffer read after one store that covers it holds what was stored. -/
theorem read_stored {sp : Space} {S : Shape} {e : EltTy} (v : View sig .tc sp S e) (f : v.ty.Contents (Elt F)) {off : Fin S.rank → ℕ}
    (inb : ∀ a, off a + S.size a ≤ S.size a) (h0 : ∀ a, off a = 0) (x : S.Idx → Elt F e) :
    v.read (Elt F) (v.writes (Elt F) f [⟨Rect.unit off S.size inb, x⟩]) = x := by
  funext y
  exact View.read_writes_cons_unit_of_mem v f inb x [] y y rfl fun a => by rw [h0 a, Nat.zero_add]

set_option maxHeartbeats 1000000 in
/-- The body's triple: from the row blocks `x0 … x3`, the weights `w`, anything in the three result buffers and `s` in the scratch. -/
theorem body_run (c : Dev nD) (i : grid0.Coords) (a1 : Memref sig .tc .vmem S256x4096 .f32) (h1 : a1.IsWhole)
    (a2 : Memref sig .tc .vmem S256x4096 .f32) (h2 : a2.IsWhole) (a3 : Memref sig .tc .vmem S256x4096 .f32) (h3 : a3.IsWhole)
    (a4 : Memref sig .tc .vmem S256x4096 .f32) (h4 : a4.IsWhole) (a5 : Memref sig .tc .vmem S4096x64 .f32) (h5 : a5.IsWhole)
    (a6 : Memref sig .tc .vmem S1024x64 .i32) (h6 : a6.IsWhole) (a7 : Memref sig .tc .vmem S1024 .f32) (h7 : a7.IsWhole)
    (a8 : Memref sig .tc .vmem S1024x64 .f32) (h8 : a8.IsWhole) (a9 : Memref sig .tc .vmem S1024x64 .f32) (h9 : a9.IsWhole)
    (x0 x1 x2 x3 : Vec F S256x4096 .f32) (w : Vec F S4096x64 .f32) (s : Vec F S1024x64 .f32) (E : Set ℕ) (K : PUnit → sProp 𝕄) :
    iprop(owns (c : Thread nD τ) a1 fullShare x0 ∗ owns (c : Thread nD τ) a2 fullShare x1 ∗ owns (c : Thread nD τ) a3 fullShare x2
        ∗ owns (c : Thread nD τ) a4 fullShare x3 ∗ owns (c : Thread nD τ) a5 fullShare w ∗ (∃ d, owns (c : Thread nD τ) a6 fullShare d)
        ∗ (∃ d, owns (c : Thread nD τ) a7 fullShare d) ∗ (∃ d, owns (c : Thread nD τ) a8 fullShare d) ∗ owns (c : Thread nD τ) a9 fullShare s
        ∗ (iprop(owns (c : Thread nD τ) a1 fullShare x0 ∗ owns (c : Thread nD τ) a2 fullShare x1 ∗ owns (c : Thread nD τ) a3 fullShare x2
            ∗ owns (c : Thread nD τ) a4 fullShare x3 ∗ owns (c : Thread nD τ) a5 fullShare w ∗ owns (c : Thread nD τ) a6 fullShare (k0_pay3 s)
            ∗ owns (c : Thread nD τ) a7 fullShare (k0_pay4 s) ∗ owns (c : Thread nD τ) a8 fullShare s
            ∗ owns (c : Thread nD τ) a9 fullShare (product x0 x1 x2 x3 w)) -∗ K ⟨⟩))
      ⊢ wp frame (wpE (defs₀ (F := F)) Variants.none c none) E
          (cc0__router_kernel i a1 h1 a2 h2 a3 h3 a4 h4 a5 h5 a6 h6 a7 h7 a8 h8 a9 h9) K := by
  simp only [cc0__router_kernel_eq_skeleton]; unfold cc0__router_kernel_skel
  simp only [k0_part1_eq_skeleton]
  unfold owns
  iintro ⟨⟨%f0, %e0, H0⟩, ⟨%f1, %e1, H1⟩, ⟨%f2, %e2, H2⟩, ⟨%f3, %e3, H3⟩, ⟨%f4, %e4, H4⟩, ⟨%d5, %f5, -, H5⟩, ⟨%d6, %f6, -, H6⟩,
    ⟨%d7, %f7, -, H7⟩, ⟨%f8, %e8, H8⟩, Hk⟩
  obtain rfl := h1.eq_unread e0; obtain rfl := h2.eq_unread e1; obtain rfl := h3.eq_unread e2; obtain rfl := h4.eq_unread e3
  obtain rfl := h5.eq_unread e4; obtain rfl := h9.eq_unread e8
  sl_exec
  sl_step
  iapply Hk
  isplitl [H0]
  · iexists _; isplitr; · ipureintro; exact h1.read_unread _
    iexact H0
  isplitl [H1]
  · iexists _; isplitr; · ipureintro; exact h2.read_unread _
    iexact H1
  isplitl [H2]
  · iexists _; isplitr; · ipureintro; exact h3.read_unread _
    iexact H2
  isplitl [H3]
  · iexists _; isplitr; · ipureintro; exact h4.read_unread _
    iexact H3
  isplitl [H4]
  · iexists _; isplitr; · ipureintro; exact h5.read_unread _
    iexact H4
  isplitl [H5]
  · iexists _; isplitr
    swap; · iexact H5
    ipureintro
    refine (read_stored a6.view f5 _ (by decide) _).trans ?_
    simp (disch := decide) only [View.readAt_eq_ld, View.ld_unit_lit', e8]
  isplitl [H6]
  · iexists _; isplitr
    swap; · iexact H6
    ipureintro
    refine (read_stored a7.view f6 _ (by decide) _).trans ?_
    simp (disch := decide) only [View.readAt_eq_ld, View.ld_unit_lit', e8]
  isplitl [H7]
  · iexists _; isplitr
    swap; · iexact H7
    ipureintro
    refine (read_stored a8.view f7 _ (by decide) _).trans ?_
    simp (disch := decide) only [View.readAt_eq_ld, View.ld_unit_lit', e8]
  iexists _; isplitr
  swap; · iexact H8
  ipureintro
  refine (read_stored a9.view _ _ (by decide) _).trans ?_
  unfold body_run.sl.r body_run.sl.r_1 product
  simp (disch := decide) only [View.readAt_eq_ld, View.ld_unit_lit', e0, e1, e2, e3, e4]

end Cert.KernelIdeal.Router

end
-- ==== Proof.Points.lean ====
/-
  THE PROOF DATA, POINT BY POINT. At point `t` the body computes the logits of row block `min t 31` into its scratch buffer, and leaves the
  results of the logits that the point before computed. Point 0 finds nothing there yet: what it leaves is not named, and it is never
  written back, for its result buffers are those of point 1, which overwrites them.
-/
module

public import proofs.«01_k».proof.Proof.Body
public import Idealize.ShloMosaic.Lib.Pipeline.DatRel

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat BodyObligationRel)

variable {F : FTy → Type} [FloatOps F]

local notation "𝕄" => MT nD τ sig Unit (Elt F) ℕ (UR sig nD τ) ℕ

variable (m : (ℓ : Loc nD τ sig) → Buf (Elt F) ℓ)

/-- The logits that point `t` computes, from the blocks of its windows. -/
def logitsAt (c : Dev nD) (t : Fin cfg0.N) : Vec F S1024x64 .f32 :=
  product (iblk m c 0 t) (iblk m c 1 t) (iblk m c 2 t) (iblk m c 3 t) (iblk m c 4 t)

/-- The logits that the point before `t` computed (at point 0, which has none before it, those of point 0). -/
def logitsBefore (c : Dev nD) (t : Fin cfg0.N) : Vec F S1024x64 .f32 :=
  logitsAt m c ⟨t.val - 1, lt_of_le_of_lt (Nat.sub_le _ _) t.isLt⟩

/-- What the scratch may hold when `n` points have run: the logits of the last of them. -/
def Held (c : Dev nD) (n : ℕ) (s : Vec F S1024x64 .f32) : Prop :=
  ∀ t : Fin cfg0.N, t.val + 1 = n → s = logitsAt m c t

/-- The body's scratch buffer. -/
abbrev scratch : Memref sig .tc .vmem S1024x64 .f32 := Memref.whole cc0_scratch0

/-- The invariant when `n` points have run: the scratch as `Held` says, and the generator register. -/
def inv (c : Dev nD) (n : ℕ) : sProp 𝕄 :=
  iprop((∃ s, ⌜Held m c n s⌝ ∗ owns (c : Thread nD τ) scratch fullShare s) ∗ (∃ r, prngReg c r))

/-- The proof data: the arrays as the region finds them; an input's buffer keeps its block; a result's buffer ends with the result of the
    logits before; each input holds its share of its array. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay3 (logitsBefore m c t)
    | ⟨6, _⟩ => k0_pay4 (logitsBefore m c t)
    | ⟨7, _⟩ => logitsBefore m c t
  Φ t := inv m c t.val
  q w := Pipeline.shareOf spec0 w
  owed _ := 0

theorem A_eq (c : Dev nD) (w : Fin cfg0.W) : (dats m 0 c).A w = V m c (Pipeline.arrRef spec0 w) := by dsimp only [dats]
theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = k0_pay3 (logitsBefore m c t) := by dsimp only [dats]
theorem after6 (c : Dev nD) (t : Fin cfg0.N) : (dats m 0 c).after 6 t = k0_pay4 (logitsBefore m c t) := by dsimp only [dats]
theorem after7 (c : Dev nD) (t : Fin cfg0.N) : (dats m 0 c).after 7 t = logitsBefore m c t := by dsimp only [dats]

/-- The windows of the results, which are known from point 1 on only. -/
def late (w : Fin cfg0.W) : Bool := decide (5 ≤ w.val)

/-- What is known of a result's buffer after point `t`: what the proof data name, unless `t` is the first point. -/
def Known (c : Dev nD) (w : Fin cfg0.W) (t : Fin cfg0.N) (X : (cfg0.win w).block.Idx → Elt F (cfg0.win w).elt) : Prop :=
  t.val ≠ 0 → X = (dats m 0 c).after w t

/-- What the body is called with at point `t`, window by window, -/
def bodyPre (c : Dev nD) (t : Fin cfg0.N) : sProp 𝕄 :=
  iprop(inv m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ Y, ⌜((dats m 0 c).toRRel late (Known m c)).Finds 5 t Y⌝ ∗ owns (c : Thread nD τ) (st0_5 t) fullShare Y)
    ∗ (∃ Y, ⌜((dats m 0 c).toRRel late (Known m c)).Finds 6 t Y⌝ ∗ owns (c : Thread nD τ) (st0_6 t) fullShare Y)
    ∗ (∃ Y, ⌜((dats m 0 c).toRRel late (Known m c)).Finds 7 t Y⌝ ∗ owns (c : Thread nD τ) (st0_7 t) fullShare Y))

/-- and what it returns. -/
def bodyPost (c : Dev nD) (t : Fin cfg0.N) : sProp 𝕄 :=
  iprop(inv m c (t.val + 1) ∗ (dats m 0 c).owesAt () t.castSucc
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ (∃ X, ⌜Known m c 5 t X⌝ ∗ owns (c : Thread nD τ) (st0_5 t) fullShare X)
    ∗ (∃ X, ⌜Known m c 6 t X⌝ ∗ owns (c : Thread nD τ) (st0_6 t) fullShare X)
    ∗ (∃ X, ⌜Known m c 7 t X⌝ ∗ owns (c : Thread nD τ) (st0_7 t) fullShare X))

/-- The scratch found at a point that is not the first holds the logits of the point before. -/
theorem Held.eq_before {c : Dev nD} {t : Fin cfg0.N} {s : Vec F S1024x64 .f32} (h : Held m c t.val s) (ht : t.val ≠ 0) :
    s = logitsBefore m c t :=
  h ⟨t.val - 1, lt_of_le_of_lt (Nat.sub_le _ _) t.isLt⟩ (Nat.sub_add_cancel (Nat.pos_of_ne_zero ht))

set_option maxHeartbeats 1000000 in
/-- The body at any point. -/
theorem body_point (c : Dev nD) (t : Fin cfg0.N) :
    bodyPre m c t ⊢ wp frame (wpE (defs₀ (F := F)) Variants.none c none) Set.univ (bodyAt0 t) (fun _ => bodyPost m c t) := by
  unfold bodyPre bodyPost bodyAt0 inv
  simp only [before0_0_of m (dats m 0 c) (A_eq m c 0) (after0 m c), before0_1_of m (dats m 0 c) (A_eq m c 1) (after1 m c),
    before0_2_of m (dats m 0 c) (A_eq m c 2) (after2 m c), before0_3_of m (dats m 0 c) (A_eq m c 3) (after3 m c),
    before0_4_of m (dats m 0 c) (A_eq m c 4) (after4 m c), after0, after1, after2, after3, after4]
  iintro ⟨⟨⟨%s, %hs, HS⟩, Hg⟩, Ho, ⟨%d0, H0⟩, ⟨%d1, H1⟩, ⟨%d2, H2⟩, ⟨%d3, H3⟩, ⟨%d4, H4⟩, ⟨%Y5, -, H5⟩, ⟨%Y6, -, H6⟩, ⟨%Y7, -, H7⟩⟩
  iapply (body_run c (grid0.coords t) _ _ _ _ _ _ _ _ _ _ _ _ _ _ _ _ _ _ (iblk m c 0 t) (iblk m c 1 t) (iblk m c 2 t) (iblk m c 3 t)
    (iblk m c 4 t) s Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  isplitl [H7]; · iexists _; iexact H7
  isplitl [HS]; · iexact HS
  iintro ⟨H0, H1, H2, H3, H4, H5, H6, H7, HS⟩
  isplitl [HS Hg]
  · isplitl [HS]
    · iexists _; isplitr
      swap; · iexact HS
      ipureintro; intro u hu
      obtain rfl : u = t := Fin.ext (Nat.succ.inj hu)
      rfl
    iexact Hg
  isplitl [Ho]; · iexact Ho
  isplitl [H0]; · iexact H0
  isplitl [H1]; · iexact H1
  isplitl [H2]; · iexact H2
  isplitl [H3]; · iexact H3
  isplitl [H4]; · iexact H4
  isplitl [H5]
  · iexists _; isplitr
    swap; · iexact H5
    ipureintro; intro ht; rw [after5, ← hs.eq_before m ht]
  isplitl [H6]
  · iexists _; isplitr
    swap; · iexact H6
    ipureintro; intro ht; rw [after6, ← hs.eq_before m ht]
  iexists _; isplitr
  swap; · iexact H7
  ipureintro; intro ht; rw [after7, ← hs.eq_before m ht]

/-- The body table's row at point `t` is the body on that point's buffers. -/
theorem row (t : Fin cfg0.N) : defs₀ (F := F) .tc cfg0.body (cfg0.bodyArgs t (cfg0.slots t)) = bodyAt0 t := by
  unfold defs₀; rw [Defs.onTc_tc]

/-- The body's obligation, the results held to `Known`. -/
theorem body_obligation (c : Dev nD) :
    BodyObligationRel (dats (F := F) m 0 c) (defs₀ (F := F)) Variants.none () Set.univ late (Known m c) := fun t => by
  rw [bigSep_W0, bigSep_W0, row]
  exact triple_restated (body_point m c t) rfl .rfl fun _ => .rfl

/-- The region starts with the scratch at anything, -/
theorem enter (c : Dev nD) : Pipeline.ΦA spec0 c ⊢ (dats m 0 c).Φ 0 := by
  show _ ⊢ inv m c 0
  unfold Pipeline.ΦA inv; rw [scopedRest0_eq]; simp only [scratch, owns_whole]
  iintro ⟨⟨%f, HS⟩, Hg⟩
  isplitl [HS]
  · iexists f; isplitr
    · ipureintro; exact fun t h => absurd h (Nat.succ_ne_zero _)
    iexact HS
  iexact Hg

/-- and ends with the scratch at something. -/
theorem leave (c : Dev nD) : (dats m 0 c).Φ (Fin.last cfg0.N) ⊢ Pipeline.ΦA spec0 c := by
  show inv m c cfg0.N ⊢ _
  unfold Pipeline.ΦA inv; rw [scopedRest0_eq]; simp only [scratch, owns_whole]
  iintro ⟨⟨%s, -, HS⟩, Hg⟩
  isplitl [HS]
  · iexists s; iexact HS
  iexact Hg

end Cert.KernelIdeal.Router

end
-- ==== Proof.Launch.lean ====
/-
  THE RUN. The results' arrays are written back at points 1, …, 32 only, where `Known` names what the body left: so after the last point
  they hold exactly what the proof data name, and the host line after the region runs on that. The run ends with every array at the proof
  data's contents and every semaphore at zero.
-/
module

public import proofs.«01_k».proof.Proof.Points
public import Idealize.ShloMosaic.Lib.Pipeline.ArrRel
public import Idealize.ShloMosaic.Lib.Pipeline.FrameSuffix
public import Idealize.ShloMosaic.Lib.Pipeline.Quiescent

@[expose] public section

set_option maxRecDepth 16384

noncomputable section

namespace Cert.KernelIdeal.Router

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The relational data of the run. -/
abbrev rel (c : Dev nD) : RDat τ (Elt F) Unit ℕ (UR sig nD τ) ℕ cfg0 c := (dats m 0 c).toRRel late (Known m c)

/-- A window that is not a result's is an input's. -/
theorem isOut_of_not_late : ∀ w : Fin cfg0.W, late w = false → (cfg0.win w).isOut = false := by decide +kernel

/-- No result is written back at the first point. -/
theorem flush_pos : ∀ (w : Fin cfg0.W) (t : Fin cfg0.N), late w = true → (cfg0.win w).flush t = true → t.val ≠ 0 := by decide +kernel

/-- What an array may hold after the last point is what the proof data name. -/
theorem held_exact (c : Dev nD) (w : Fin cfg0.W) (G : Buf (Elt F) ((cfg0.win w).arr.view.loc (c.tc : Thread nD τ)))
    (h : (rel m c).ArrAt w cfg0.N G) : G = (dats m 0 c).arrAt w cfg0.N := by
  rcases hl : late w with _ | _
  · have hin := isOut_of_not_late w hl
    rw [(rel m c).ArrAt_in w hin] at h
    rw [(dats m 0 c).arrAt_in w hin]; exact h
  · obtain ⟨X, hX, hA⟩ := h.exists_exact
    have := hA (dats m 0 c).after fun u hu hf => ((dats m 0 c).toRRel_leaves hl (hX u hu hf) (flush_pos w u hl hf)).symm
    exact this

/-- The arrays after the last point. -/
def final (c : Dev nD) (w : Fin cfg0.W) : Buf (Elt F) ((cfg0.win w).arr.view.loc (c.tc : Thread nD τ)) := (dats m 0 c).arrAt w cfg0.N

/-- A window's array after the last point, at contents it may hold, is at its final contents. -/
theorem array_exact (c : Dev nD) (w : Fin cfg0.W) :
    (iprop(∃ G, ⌜(rel m c).ArrAt w cfg0.N G⌝ ∗ (cfg0.win w).arr.view.loc (c.tc : Thread nD τ) ↦[(cfg0.win w).arr.view.set]{(rel m c).share w} G) : sProp 𝕄)
      ⊢ iprop(⌜(rel m c).ArrAt w cfg0.N (final m c w)⌝
        ∗ (cfg0.win w).arr.view.loc (c.tc : Thread nD τ) ↦[(cfg0.win w).arr.view.set]{(rel m c).share w} final m c w) := by
  iintro ⟨%G, %hG, HG⟩
  have e : G = final m c w := held_exact m c w G hG
  subst e
  isplitr
  · ipureintro; exact hG
  iexact HG

/-- The relational data's arrays after the last point are the arrays that the proof data name, which are then contents they may hold. -/
theorem arrays_exact (c : Dev nD) :
    ((rel m c).arraysAt cfg0.N : sProp 𝕄) ⊢ iprop(⌜∀ w, (rel m c).ArrAt w cfg0.N (final m c w)⌝ ∗ (rel m c).arrays (final m c)) := by
  unfold RDat.arraysAt RDat.arrays
  refine (BI.bigSep_mono (s := (Finset.univ : Finset (Fin cfg0.W))) (fun w _ => array_exact m c w)).trans ?_
  show (_ : sProp 𝕄) ⊢ _
  iintro H'
  ihave H2 := (BI.bigSep_pure_sep Finset.univ (fun w => (rel m c).ArrAt w cfg0.N (final m c w)) (fun w =>
    (cfg0.win w).arr.view.loc (c.tc : Thread nD τ) ↦[(cfg0.win w).arr.view.set]{(rel m c).share w} final m c w)) $$ H'
  icases H2 with ⟨%h, H⟩
  isplitr
  · ipureintro; exact fun w => h w (Finset.mem_univ w)
  iexact H

/-- And back. -/
theorem arrays_may (c : Dev nD) (h : ∀ w, (rel m c).ArrAt w cfg0.N (final m c w)) :
    ((rel m c).arrays (final m c) : sProp 𝕄) ⊢ (rel m c).arraysAt cfg0.N := by
  unfold RDat.arraysAt RDat.arrays
  refine BI.bigSep_mono fun w _ => ?_
  show ((cfg0.win w).arr.view.loc (c.tc : Thread nD τ) ↦[(cfg0.win w).arr.view.set]{(rel m c).share w} final m c w : sProp 𝕄) ⊢ _
  iintro H; iexists (final m c w); isplitr
  · ipureintro; exact h w
  iexact H

/-- What the run ends with. -/
def Ends (r : PUnit × MemSt nD τ sig (Elt F)) : Prop :=
  Pipeline.FramePost cfgs (dats m) 0 (Pipeline.afterTail₀ cfgs (dats m) 0 (V0 m) [hostOps1]) r ∧ r.2.sem = fun _ => 0

/-- The windows' arrays are the buffers behind them, each at its final contents. -/
theorem arrays_bufs (c : Dev nD) : ((rel m c).arrays (final m c) : sProp 𝕄)
    = Pipeline.arrBufs spec0 c (fun b => Pipeline.withArrays spec0 c (V0 m c) (final m c) (Proc.devRef .tc b)) :=
  ((dats m 0 c).arrBufs_eq_arrays launch₀0.sharedIn launch₀0.arr_whole (fun _ _ => rfl) _ _ fun w =>
    (Pipeline.withArrays_arr_shared spec0 c (V0 m c) _ ((dats m 0 c).arrAt_sharedIn launch₀0.sharedIn (V0 m c) (A_eq m c) cfg0.N) w).symm).symm

set_option backward.isDefEq.respectTransparency.types false in
set_option maxHeartbeats 2000000 in
/-- The run of the whole program. -/
theorem run : θ_run defs (onTc (τ := τ) (main (F := F))) (s₀ m ρ) (Ends m) := by
  have kit := launch₀0
  exact RDat.θ_run_region_pf_tail_quiescent (fun q => (cfgs q).toPCfg (Val := Elt F)) (fun q => (cfgs q).toPCfg_adm)
    (fun _ c => rel m c) () ((kit.toP (Val := Elt F)).cellOf_inj _) 0 kit.win (Pipeline.OwnSemFacts.none spec0) (Pipeline.PreFacts.none _) emb₁ defs₀ Variants.none
    m ρ main (fun _ => Pipeline.chain ([hostOps1].map StableHlo.seq))
    (hbody := fun c => (body_obligation m c).toRRel) (hne := kit.block_pos) (harr := kit.arr_whole) (hstage := kit.stage_whole)
    (howed := fun _ _ => rfl) (G := fun _ => iprop(emp))
    (u₀ := Rounds.initOf (Pipeline.cells cfgs kit.cellOf_inj) (Pipeline.launchToks cfgs kit.cellOf_inj))
    (hu₀ := by
      iintro Hu; imodintro
      isplitl [Hu]
      · iapply (show (ownU _ : sProp 𝕄) ⊢ BI.own (emb₁ _) from .rfl)
        iexact Hu
      iapply (Entails.of_eq (BI.bigSep_emp_const (M := 𝕄) (Finset.univ : Finset (Dev nD))).symm)
      iempintro)
    (V := V m) (hmain := hmain m Variants.none)
    (hsplit := fun c => (dats m 0 c).arrays_split_shared kit.sharedIn kit.arr_whole (fun _ _ => rfl) _ _ fun w => A_eq m c w)
    (hpf := fun _ k => k.elim0)
    (X := fun c => iprop(∃ r, prngReg c r)) (Y := fun c => iprop(∃ r, prngReg c r))
    (Z := fun c => Pipeline.unscopedRestP Pipeline.Prefetch.none spec0 c (V m c))
    (Z' := fun c => Pipeline.unscopedRestP Pipeline.Prefetch.none spec0 c (Pipeline.afterTail₀ cfgs (dats m) 0 (V0 m) [hostOps1] c))
    (hX := fun c => by
      iintro ⟨HU, -, -, Hg, -⟩; imodintro
      isplitl [Hg]
      · iexists _; iexact Hg
      iexact HU)
    (hin := fun c => by
      refine BI.BIBase.Entails.trans ?_ (enter m c)
      unfold Pipeline.ΦA
      iintro ⟨Hg, -, HS⟩
      isplitl [HS] <;> iassumption)
    (hout := fun c => by
      refine (leave m c).trans ?_
      rw [Pipeline.ownSems0_none]; unfold Pipeline.ΦA
      iintro ⟨HS, Hg⟩
      isplitl [Hg]; · iexact Hg
      isplitr; · iempintro
      iexact HS)
    (htail := fun c Q => by
      iintro ⟨Hk, Hb, Ha, HZ⟩
      ihave Ha := (arrays_exact m c) $$ Ha
      icases Ha with ⟨%hmay, Ha⟩
      iapply (Pipeline.tail_seqs_bufs_b (fun q => (cfgs q).toPCfg (Val := Elt F)) defs₀ Variants.none Pipeline.Prefetch.none spec0 c (V0 m c)
        (final m c) [hostOps1] sfx_sub sfx_fresh sfx_keeps Q)
      isplitl [Hk]
      · iintro ⟨Hb, Ha, HZ⟩
        iapply Hk
        isplitl [Hb]; · iexact Hb
        isplitl [Ha]
        · iapply (arrays_may m c hmay); rw [arrays_bufs]; iexact Ha
        iexact HZ
      isplitl [Hb]; · iexact Hb
      isplitl [Ha]
      · rw [← arrays_bufs]; iexact Ha
      iexact HZ)
    (QY := fun c s => ∀ b ∈ Pipeline.restRefsP sig Pipeline.Prefetch.none spec0, s.mem ((c.tc : Thread nD τ).loc b)
      = Pipeline.afterTail₀ cfgs (dats m) 0 (V0 m) [hostOps1] c b)
    (hY := fun c s => by
      iintro ⟨-, HU, HSI⟩
      unfold Pipeline.unscopedRestP
      imodintro
      iapply (pointsTo_read_all _ (fun b => (c.tc : Thread nD τ).loc b) _ s)
      isplitl [HU] <;> iassumption)
    (hQ := fun s h hz => ⟨fun c => ⟨fun w => held_exact m c w _ ((h c).1 w),
      Pipeline.rest_of_restP Pipeline.Prefetch.none spec0 (Pipeline.Cfg.toPCfg_adm cfg0).1 c _ s (fun k => k.elim0) (fun k => k.elim0) (h c).2.2⟩, hz⟩)

end Cert.KernelIdeal.Router

end
-- ==== Proof.Frame.lean ====
/-
  THE FRAME. Off the run: the arguments end as they were and every semaphore ends at zero, at any reading of the floats.
-/
module

public import proofs.«01_k».proof.Proof.Launch

@[expose] public section

set_option maxRecDepth 16384

noncomputable section

namespace Cert.KernelIdeal.Router

open Cert.KernelIdeal Cert.KernelIdeal.Gen
open Idealize.ShloMosaic Idealize.ShloMosaic.TcCoe
open Idealize.SL.Sem

variable {F : FTy → Type} [FloatOps F]
variable (m : (ℓ : Loc nD τ sig) → Buf (Elt F) ℓ) (ρ : Dev nD → PrngReg)

/-- The arguments of the launch memory `m` end unchanged, and no semaphore is left counting. -/
def Kept (r : PUnit × MemSt nD τ sig (Elt F)) : Prop :=
  (∀ c : Dev nD, r.2.mem ((c.tc : Thread nD τ).loc main_arg0) = m ((c.tc : Thread nD τ).loc main_arg0)
    ∧ r.2.mem ((c.tc : Thread nD τ).loc main_arg1) = m ((c.tc : Thread nD τ).loc main_arg1))
  ∧ r.2.sem = fun _ => 0

/-- The frame. -/
theorem kept : θ_run defs (onTc (τ := τ) (main (F := F))) ⟨m, fun _ => 0, ρ⟩ (Kept m) :=
  θ_run_and (frame_of m ρ (dats m) (A_eq m) ((θ_run defs _ _).mono (fun _ h => h.1) (run m ρ)))
    ((θ_run defs _ _).mono (fun _ h => h.2) (run m ρ))

end Cert.KernelIdeal.Router

end
-- ==== Proof.KernelFrame.lean ====
/-
  THE FRAME OF THE KERNEL AT THE MACHINE'S FLOATS. The program printed for the machine's floats and the one printed for the reals are one
  text under two names, so the frame of the one, which holds at any reading of the floats, is the frame of the other.
-/
module

public import proofs.«01_k».proof.Proof.Frame
public import proofs.«01_k».proof.Proof.Gen.Kernel

@[expose] public section

set_option maxRecDepth 16384

noncomputable section

namespace Cert.Kernel.Router

open Cert.Kernel
open Idealize.ShloMosaic Idealize.ShloMosaic.TcCoe
open Idealize.SL.Sem

/-- The two programs' bodies are one. -/
theorem defs₀_same : Cert.Kernel.defs₀ (F := Bits) = Cert.KernelIdeal.defs₀ (F := Bits) := by
  refine congrArg (Defs.onTc (Λ := Cert.Kernel.Λ₀)) (funext fun l => funext fun a => ?_)
  match l, a with
  | ⟨0, _⟩, (t, s) => rfl

/-- So are their body tables, -/
theorem defs_same : Cert.Kernel.defs (F := Bits) = Cert.KernelIdeal.defs (F := Bits) := congrArg (Pipeline.defs _) defs₀_same

/-- and what runs over them. -/
theorem main_same : Cert.Kernel.main (F := Bits) = Cert.KernelIdeal.main (F := Bits) := by
  unfold Cert.Kernel.main Cert.KernelIdeal.main Cert.Kernel.fn_kernel.body Cert.KernelIdeal.fn_kernel.body; rfl

variable (m : (ℓ : Loc nD τ sig) → Buf (Elt Bits) ℓ) (ρ : Dev nD → PrngReg)

/-- The frame. -/
theorem kept : θ_run (defs (F := Bits)) (onTc (τ := τ) (main (F := Bits))) ⟨m, fun _ => 0, ρ⟩ (fun r =>
    (∀ c : Dev nD, r.2.mem ((c.tc : Thread nD τ).loc main_arg0) = m ((c.tc : Thread nD τ).loc main_arg0)
      ∧ r.2.mem ((c.tc : Thread nD τ).loc main_arg1) = m ((c.tc : Thread nD τ).loc main_arg1))
    ∧ r.2.sem = fun _ => 0) := by
  rw [defs_same, main_same]
  exact Cert.KernelIdeal.Router.kept (F := Bits) m ρ

end Cert.Kernel.Router

end
-- ==== Proof.Row.lean ====
/-
  ONE ROW OF LOGITS. For a row `l` of 64 extended reals: its greatest entry, the exponentials shifted by it, their sum, and the least
  position that attains the greatest entry. For a row of real numbers the softmax of the row is largest exactly where the row is, and
  its largest value is one over the sum of the shifted exponentials.
-/
module

public import Idealize.ShloMosaic.Lib.Pointwise

@[expose] public section

noncomputable section

namespace Cert.Router

open Idealize.ShloMosaic

/-- The greatest entry of a row (never below −∞). -/
def top (l : Fin 64 → EReal) : EReal := Finset.univ.fold max ⊥ l

/-- The exponential of an entry less the greatest one. -/
def weight (l : Fin 64 → EReal) (e : Fin 64) : EReal := Ideal.exp (l e - top l)

/-- The sum of the shifted exponentials. -/
def total (l : Fin 64 → EReal) : EReal := ∑ e, weight l e

/-- The softmax of the row. -/
def prob (l : Fin 64 → EReal) (e : Fin 64) : EReal := Ideal.div (weight l e) (total l)

/-- `i` is the first position of a greatest entry. -/
def First (l : Fin 64 → EReal) (i : Fin 64) : Prop := ∀ e, l e < l i ∨ (l e = l i ∧ i ≤ e)

theorem le_top (l : Fin 64 → EReal) (e : Fin 64) : l e ≤ top l :=
  Finset.le_fold_max (l e) |>.2 (Or.inr ⟨e, Finset.mem_univ e, le_rfl⟩)

/-- The greatest entry is reached at any position no entry exceeds. -/
theorem top_eq (l : Fin 64 → EReal) (i : Fin 64) (h : ∀ e, l e ≤ l i) : top l = l i :=
  le_antisymm (Finset.fold_max_le (l i) |>.2 ⟨bot_le, fun e _ => h e⟩) (le_top l i)

/-- There is a first position of a greatest entry. -/
theorem exists_first (l : Fin 64 → EReal) : ∃ i, First l i := by
  obtain ⟨k, _, hk⟩ := Finset.exists_max_image Finset.univ l ⟨0, Finset.mem_univ _⟩
  have hne : (Finset.univ.filter fun e => l e = l k).Nonempty := ⟨k, by simp⟩
  refine ⟨(Finset.univ.filter fun e => l e = l k).min' hne, fun e => ?_⟩
  have hi : l ((Finset.univ.filter fun e => l e = l k).min' hne) = l k := by
    simpa using Finset.min'_mem _ hne
  rw [hi]
  rcases (hk e (Finset.mem_univ e)).lt_or_eq with h | h
  · exact Or.inl h
  · exact Or.inr ⟨h, Finset.min'_le _ _ (by simpa using h)⟩

theorem First.le {l : Fin 64 → EReal} {i : Fin 64} (h : First l i) (e : Fin 64) : l e ≤ l i :=
  (h e).elim le_of_lt fun h => h.1.le

theorem First.top {l : Fin 64 → EReal} {i : Fin 64} (h : First l i) : top l = l i := top_eq l i h.le

/-- The first position of a greatest entry is unique. -/
theorem First.unique {l : Fin 64 → EReal} {i j : Fin 64} (hi : First l i) (hj : First l j) : i = j := by
  have he : l i = l j := le_antisymm (hj.le i) (hi.le j)
  have hij : i ≤ j := (hi j).elim (fun h => absurd he h.ne') fun h => h.2
  have hji : j ≤ i := (hj i).elim (fun h => absurd he h.ne) fun h => h.2
  exact le_antisymm hij hji

/-! ### Rows of real numbers -/

section Reals

variable {l : Fin 64 → EReal} {r : Fin 64 → ℝ} {i : Fin 64}

theorem weight_real (hr : ∀ e, l e = (r e : EReal)) (hi : First l i) (e : Fin 64) :
    weight l e = ((Real.exp (r e - r i) : ℝ) : EReal) := by
  rw [weight, hi.top, hr e, hr i, ← EReal.coe_sub, Ideal.exp_coe]

theorem total_real (hr : ∀ e, l e = (r e : EReal)) (hi : First l i) :
    total l = ((∑ e, Real.exp (r e - r i) : ℝ) : EReal) := by
  rw [total, Finset.sum_congr rfl fun e _ => weight_real hr hi e]
  exact (map_sum (⟨⟨Real.toEReal, EReal.coe_zero⟩, EReal.coe_add⟩ : ℝ →+ EReal) _ _).symm

theorem sum_pos (r : Fin 64 → ℝ) (i : Fin 64) : 0 < ∑ e, Real.exp (r e - r i) :=
  Finset.sum_pos (fun e _ => Real.exp_pos _) ⟨i, Finset.mem_univ i⟩

theorem prob_real (hr : ∀ e, l e = (r e : EReal)) (hi : First l i) (e : Fin 64) :
    prob l e = ((Real.exp (r e - r i) * (1 / ∑ e, Real.exp (r e - r i)) : ℝ) : EReal) := by
  rw [prob, total_real hr hi, weight_real hr hi, Ideal.div_coe (sum_pos r i).ne', ← EReal.coe_mul]

/-- The softmax is largest exactly where the row is. -/
theorem First.prob (hr : ∀ e, l e = (r e : EReal)) (hi : First l i) : First (prob l) i := fun e => by
  rw [prob_real hr hi e, prob_real hr hi i]
  have hs : 0 < 1 / ∑ e, Real.exp (r e - r i) := one_div_pos.2 (sum_pos r i)
  rcases hi e with h | ⟨h, h'⟩
  · rw [hr e, hr i, EReal.coe_lt_coe_iff] at h
    exact Or.inl (EReal.coe_lt_coe_iff.2 (mul_lt_mul_of_pos_right (Real.exp_lt_exp.2 (by linarith)) hs))
  · rw [hr e, hr i, EReal.coe_eq_coe_iff] at h
    exact Or.inr ⟨by rw [h], h'⟩

/-- The largest value of the softmax is one over the sum of the shifted exponentials. -/
theorem top_prob (hr : ∀ e, l e = (r e : EReal)) : top (Router.prob l) = Ideal.div 1 (total l) := by
  obtain ⟨i, hi⟩ := exists_first l
  rw [(hi.prob hr).top, Router.prob, weight_real hr hi, sub_self, Real.exp_zero, EReal.coe_one]

/-- Every value of the softmax is above −∞. -/
theorem bot_lt_prob (hr : ∀ e, l e = (r e : EReal)) (e : Fin 64) : ⊥ < Router.prob l e := by
  obtain ⟨i, hi⟩ := exists_first l
  rw [prob_real hr hi e]
  exact EReal.bot_lt_coe _

end Reals

end Cert.Router

end
-- ==== Proof.Words.lean ====
/-
  TWO WAYS TO PICK A POSITION. The kernel marks the entries equal to the row's greatest one and takes the least marked position, as
  signed words; the reference folds (value, position) pairs keeping the better of two. Both arrive at the first position of a greatest
  entry: the two folds are read by what they guarantee (the result is one of the operands, and no operand is better).
-/
module

public import proofs.«01_k».proof.Proof.Row
public import proofs.«01_k».proof.ReferenceIdeal
public import Idealize.ShloMosaic.Lib.Pointwise

@[expose] public section

set_option maxRecDepth 16384

noncomputable section

namespace Cert.Router

open Idealize.ShloMosaic

/-- A position below 64 as a signed word. -/
theorem toInt_position (e : Fin 64) : (BitVec.ofNat 32 e.val).toInt = (e.val : Int) := by
  have he := e.isLt
  rw [BitVec.toInt_eq_toNat_cond, BitVec.toNat_ofNat]
  omega

theorem position_inj {e i : Fin 64} : BitVec.ofNat 32 e.val = BitVec.ofNat 32 i.val ↔ e = i := by
  refine ⟨fun h => ?_, fun h => h ▸ rfl⟩
  have h' := congrArg BitVec.toInt h
  rw [toInt_position, toInt_position] at h'
  exact Fin.ext (by omega)

/-! ### The least marked position -/

theorem minsi_le (a b : BitVec 32) : (IntOp.minsi a b).toInt ≤ a.toInt ∧ (IntOp.minsi a b).toInt ≤ b.toInt := by
  unfold IntOp.minsi
  split
  · rename_i h
    exact ⟨le_rfl, (BitVec.slt_iff_toInt_lt.1 h).le⟩
  · rename_i h
    exact ⟨not_lt.1 fun h' => h (BitVec.slt_iff_toInt_lt.2 h'), le_rfl⟩

theorem minsi_mem (a b : BitVec 32) : IntOp.minsi a b = a ∨ IntOp.minsi a b = b := by
  unfold IntOp.minsi
  split
  · exact Or.inl rfl
  · exact Or.inr rfl

/-- The signed minimum of a family is below every member, and it is the initial word or a member. -/
theorem fold_minsi (b : BitVec 32) (v : Fin 64 → BitVec 32) (s : Finset (Fin 64)) :
    (∀ e ∈ s, (s.fold IntOp.minsi b v).toInt ≤ (v e).toInt)
      ∧ (s.fold IntOp.minsi b v = b ∨ ∃ e ∈ s, s.fold IntOp.minsi b v = v e) := by
  induction s using Finset.induction_on with
  | empty => exact ⟨fun e he => absurd he (Finset.notMem_empty e), Or.inl (Finset.fold_empty)⟩
  | insert a s ha ih =>
    rw [Finset.fold_insert ha]
    refine ⟨fun e he => ?_, ?_⟩
    · rcases Finset.mem_insert.1 he with rfl | he
      · exact (minsi_le _ _).1
      · exact (minsi_le _ _).2.trans (ih.1 e he)
    · rcases minsi_mem (v a) (s.fold IntOp.minsi b v) with h | h
      · exact Or.inr ⟨a, Finset.mem_insert_self a s, h⟩
      · rw [h]
        exact ih.2.imp id fun ⟨e, he, h'⟩ => ⟨e, Finset.mem_insert_of_mem he, h'⟩

/-- The least position marked as greatest is the first one. -/
theorem least_marked {l : Fin 64 → EReal} {i : Fin 64} (hi : First l i) :
    Finset.univ.fold IntOp.minsi (2147483647#32) (fun e : Fin 64 => if l e = top l then BitVec.ofNat 32 e.val else 64#32)
      = BitVec.ofNat 32 i.val := by
  obtain ⟨hle, hmem⟩ := fold_minsi (2147483647#32) (fun e : Fin 64 => if l e = top l then BitVec.ofNat 32 e.val else 64#32)
    Finset.univ
  have hii := hle i (Finset.mem_univ i)
  simp only [if_pos hi.top.symm, toInt_position] at hii
  have hlt := i.isLt
  rcases hmem with h | ⟨e, _, h⟩
  · rw [h] at hii
    have : (2147483647#32).toInt = 2147483647 := by decide
    omega
  · rw [h] at hii ⊢
    split at hii
    · rename_i he
      rw [if_pos he]
      rw [toInt_position] at hii
      refine position_inj.2 (le_antisymm (Fin.le_def.2 (by omega)) ?_)
      rw [hi.top] at he
      exact (hi e).elim (fun h' => absurd he h'.ne) fun h' => h'.2
    · have : (64#32).toInt = 64 := by decide
      omega

/-! ### The better of two pairs -/

/-- `a` is at least as good as `b`: a greater value, or the same value at an earlier position. -/
def Better (a b : EReal × BitVec 32) : Prop := b.1 < a.1 ∨ (b.1 = a.1 ∧ a.2.toInt ≤ b.2.toInt)

theorem Better.refl (a : EReal × BitVec 32) : Better a a := Or.inr ⟨rfl, le_rfl⟩

theorem Better.trans {a b c : EReal × BitVec 32} (h : Better a b) (h' : Better b c) : Better a c := by
  rcases h with h | ⟨h, k⟩ <;> rcases h' with h' | ⟨h', k'⟩
  · exact Or.inl (h'.trans h)
  · exact Or.inl (h' ▸ h)
  · exact Or.inl (h ▸ h')
  · exact Or.inr ⟨h'.trans h, k.trans k'⟩

/-- The reference's reducer keeps one of its two pairs, at least as good as both. -/
theorem keeps_better (a b : EReal × BitVec 32) :
    (ReferenceIdeal.reducer_argmax_f32_i32 (F := Ideal) a b = a ∨ ReferenceIdeal.reducer_argmax_f32_i32 (F := Ideal) a b = b)
      ∧ Better (ReferenceIdeal.reducer_argmax_f32_i32 (F := Ideal) a b) a
      ∧ Better (ReferenceIdeal.reducer_argmax_f32_i32 (F := Ideal) a b) b := by
  obtain ⟨x, p⟩ := a
  obtain ⟨y, q⟩ := b
  rcases lt_trichotomy x y with h | h | h
  · have e : ReferenceIdeal.reducer_argmax_f32_i32 (F := Ideal) (x, p) (y, q) = (y, q) := by
      simp [ReferenceIdeal.reducer_argmax_f32_i32, Ideal.cmpf_def, Ideal.cmp, IntOp.ori, IntOp.andi, Scalar.select, h.not_gt, h.ne]
    rw [e]
    exact ⟨Or.inr rfl, Or.inl h, Better.refl _⟩
  · subst h
    by_cases hs : p.slt q = true
    · have e : ReferenceIdeal.reducer_argmax_f32_i32 (F := Ideal) (x, p) (x, q) = (x, p) := by
        simp [ReferenceIdeal.reducer_argmax_f32_i32, Ideal.cmpf_def, Ideal.cmp, IntOp.cmpi, IntOp.ori, IntOp.andi, Scalar.select, hs]
      rw [e]
      exact ⟨Or.inl rfl, Better.refl _, Or.inr ⟨rfl, (BitVec.slt_iff_toInt_lt.1 hs).le⟩⟩
    · have e : ReferenceIdeal.reducer_argmax_f32_i32 (F := Ideal) (x, p) (x, q) = (x, q) := by
        simp [ReferenceIdeal.reducer_argmax_f32_i32, Ideal.cmpf_def, Ideal.cmp, IntOp.cmpi, IntOp.ori, IntOp.andi, Scalar.select, hs]
      rw [e]
      exact ⟨Or.inr rfl, Or.inr ⟨rfl, not_lt.1 fun h' => hs (BitVec.slt_iff_toInt_lt.2 h')⟩, Better.refl _⟩
  · have e : ReferenceIdeal.reducer_argmax_f32_i32 (F := Ideal) (x, p) (y, q) = (x, p) := by
      simp [ReferenceIdeal.reducer_argmax_f32_i32, Ideal.cmpf_def, Ideal.cmp, IntOp.ori, IntOp.andi, Scalar.select, h, h.ne']
    rw [e]
    exact ⟨Or.inl rfl, Better.refl _, Or.inl h⟩

/-- A fold keeping the better pair ends at the initial pair or a member of the list, at least as good as all of them. -/
theorem foldl_better (f : EReal × BitVec 32 → EReal × BitVec 32 → EReal × BitVec 32)
    (hf : ∀ a b, (f a b = a ∨ f a b = b) ∧ Better (f a b) a ∧ Better (f a b) b) (L : List (EReal × BitVec 32)) :
    ∀ p, (L.foldl f p = p ∨ L.foldl f p ∈ L) ∧ Better (L.foldl f p) p ∧ ∀ q ∈ L, Better (L.foldl f p) q := by
  induction L with
  | nil => exact fun p => ⟨Or.inl rfl, Better.refl p, fun q hq => absurd hq List.not_mem_nil⟩
  | cons a L ih =>
    intro p
    obtain ⟨h1, h2, h3⟩ := ih (f p a)
    rw [List.foldl_cons]
    refine ⟨?_, h2.trans (hf p a).2.1, fun q hq => ?_⟩
    · rcases h1 with h | h
      · rw [h]
        exact (hf p a).1.imp id fun h' => by rw [h']; exact List.mem_cons_self
      · exact Or.inr (List.mem_cons_of_mem a h)
    · rcases List.mem_cons.1 hq with rfl | hq
      · exact h2.trans (hf p q).2.2
      · exact h3 q hq

/-- The reference's fold over a row whose entries are above −∞ ends at the first position of a greatest entry. -/
theorem argmax_first (P : Fin 64 → EReal) (hP : ∀ e, ⊥ < P e) {i : Fin 64} (hi : First P i) (w : BitVec 32)
    (L : List (EReal × BitVec 32)) (hall : ∀ e, (P e, BitVec.ofNat 32 e.val) ∈ L)
    (honly : ∀ q ∈ L, ∃ e, q = (P e, BitVec.ofNat 32 e.val)) :
    (L.foldl (ReferenceIdeal.reducer_argmax_f32_i32 (F := Ideal)) ((⊥ : EReal), w)).2 = BitVec.ofNat 32 i.val := by
  obtain ⟨h1, _, h3⟩ := foldl_better (ReferenceIdeal.reducer_argmax_f32_i32 (F := Ideal)) keeps_better L (⊥, w)
  have hb := h3 _ (hall i)
  rcases h1 with h | h
  · rw [h] at hb
    exact absurd hb (by rintro (h | ⟨h, _⟩); exacts [not_lt_bot h, (hP i).ne' h])
  · obtain ⟨e, he⟩ := honly _ h
    rw [he] at hb ⊢
    refine position_inj.2 ?_
    rcases hb with hb | ⟨hv, hp⟩
    · exact absurd (hi.le e) (not_le.2 hb)
    · simp only [toInt_position] at hp
      refine le_antisymm (Fin.le_def.2 (by omega)) ?_
      exact (hi e).elim (fun h' => absurd hv h'.ne') fun h' => h'.2

/-- The pairs the reference folds at a row: one for each position of the row. -/
theorem mem_fiber {n0 n1 : Nat} {t : Shape} (h : (⟨2, ![n0, n1]⟩ : Shape).ReducesTo [1] t) (x : (⟨2, ![n0, n1]⟩ : Shape).Idx → EReal)
    (y : (⟨2, ![n0, n1]⟩ : Shape).Idx → BitVec 32) (j : t.Idx) (q : EReal × BitVec 32) :
    q ∈ Host.argReduceFiber x y h j
      ↔ ∃ k : Fin n1, q = (x (ix2 ⟨(j ⟨0, h.lt_r2_a1_0⟩).val, Shape.coordLt (j ⟨0, h.lt_r2_a1_0⟩) h.size_r2_a1_0⟩ k),
          y (ix2 ⟨(j ⟨0, h.lt_r2_a1_0⟩).val, Shape.coordLt (j ⟨0, h.lt_r2_a1_0⟩) h.size_r2_a1_0⟩ k)) := by
  unfold Host.argReduceFiber
  constructor
  · intro hq
    obtain ⟨n, hn, rfl⟩ := List.mem_map.1 hq
    obtain ⟨k, hk⟩ := (h.fiber_r2_a1 j _).1 (of_decide_eq_true (List.mem_filter.1 hn).2)
    exact ⟨k, by rw [hk]⟩
  · rintro ⟨k, rfl⟩
    refine List.mem_map.2 ⟨Shape.rowMajor _ (ix2 ⟨(j ⟨0, h.lt_r2_a1_0⟩).val, Shape.coordLt (j ⟨0, h.lt_r2_a1_0⟩) h.size_r2_a1_0⟩ k),
      List.mem_filter.2 ⟨List.mem_finRange _, ?_⟩, ?_⟩
    · rw [Equiv.symm_apply_apply]
      exact decide_eq_true ((h.fiber_r2_a1 j _).2 ⟨k, rfl⟩)
    · rw [Equiv.symm_apply_apply]

/-- The positions the reference chooses, one per row. -/
def pick {n0 : Nat} {u : Shape} (h : (⟨2, ![n0, 64]⟩ : Shape).ReducesTo [1] ⟨1, ![n0]⟩) (hu : 0 < u.numel)
    (x : FVec Ideal ⟨2, ![n0, 64]⟩ .f32) (y : (⟨2, ![n0, 64]⟩ : Shape).Idx → BitVec 32) (ix : u.Idx → Ideal .f32)
    (iy : u.Idx → BitVec 32) : (⟨1, ![n0]⟩ : Shape).Idx → BitVec 32 :=
  fun j => (Host.argReduce (ReferenceIdeal.reducer_argmax_f32_i32 (F := Ideal)) x y ix iy h hu j).2

/-- The reference's choice at a row whose entries are above −∞ is the first position of a greatest entry. -/
theorem argmax_row {n0 : Nat} {u : Shape} (h : (⟨2, ![n0, 64]⟩ : Shape).ReducesTo [1] ⟨1, ![n0]⟩) (hu : 0 < u.numel)
    (x : FVec Ideal ⟨2, ![n0, 64]⟩ .f32) (y : (⟨2, ![n0, 64]⟩ : Shape).Idx → BitVec 32) (ix : u.Idx → Ideal .f32) (iy : u.Idx → BitVec 32)
    (r : Fin n0) (hix : ix (Shape.Idx.first hu) = (⊥ : EReal)) (hy : ∀ e, y (ix2 r e) = BitVec.ofNat 32 e.val)
    (hP : ∀ e : Fin 64, (⊥ : EReal) < x (ix2 r e)) {i : Fin 64} (hi : First (fun e => x (ix2 r e)) i) :
    pick h hu x y ix iy (ix1 r) = BitVec.ofNat 32 i.val := by
  unfold pick
  rw [Ideal.argReduce_eq_reduce2, Host.reduce2_eq_foldl_fiber, hix]
  have hr : ∀ (p : (ix1 r ⟨0, h.lt_r2_a1_0⟩).val < n0), (⟨(ix1 r ⟨0, h.lt_r2_a1_0⟩).val, p⟩ : Fin n0) = r := fun _ => rfl
  refine argmax_first (fun e => x (ix2 r e)) hP hi _ _ (fun e => (mem_fiber _ _ _ _ _).2 ⟨e, ?_⟩) fun q hq => ?_
  · rw [hr, hy]
  · obtain ⟨e, rfl⟩ := (mem_fiber _ _ _ _ _).1 hq
    exact ⟨e, by rw [hr, hy]⟩

/-- The reference's maximum along a row, from −∞, is the row's greatest entry. -/
theorem max_row {n0 : Nat} {u : Shape} (h : (⟨2, ![n0, 64]⟩ : Shape).ReducesTo [1] ⟨1, ![n0]⟩) (hu : 0 < u.numel)
    (x : FVec Ideal ⟨2, ![n0, 64]⟩ .f32) (ix : u.Idx → Ideal .f32) (r : Fin n0) (hix : ix (Shape.Idx.first hu) = (⊥ : EReal)) :
    Host.reduce FloatOps.maximumf x ix h hu (ix1 r) = top fun e => x (ix2 r e) := by
  pointwise [hix, top]

/-- A maximum with −∞ is the other operand. -/
theorem maximumf_bot {s : Shape} (a b : FVec Ideal s .f32) (j : s.Idx) (h : a j = (⊥ : EReal)) : maximumf a b j = b j := by
  show max (a j : EReal) (b j : EReal) = b j
  rw [h]
  exact max_eq_right bot_le

/-! ### The word of a comparison -/

/-- The one-hot word of a position. -/
def hot (e i : Fin 64) : BitVec 32 := if e = i then 1#32 else 0#32

/-- A comparison of two positions, widened to a word. -/
theorem widened (e i : Fin 64) : BitVec.setWidth 32 (IntOp.cmpi .eq (BitVec.ofNat 32 e.val) (BitVec.ofNat 32 i.val)) = hot e i := by
  unfold IntOp.cmpi hot
  by_cases h : e = i
  · subst h
    simp
  · have h' : (BitVec.ofNat 32 e.val == BitVec.ofNat 32 i.val) = false := beq_false_of_ne fun h' => h (position_inj.1 h')
    simp [h, h']

/-- The float of a bit, converted to a word. -/
theorem float_bit (b : Bool) : Ideal.fptosi 32 (((BitVec.ofBool b).toNat : ℝ) : EReal) = if b then 1#32 else 0#32 := by
  cases b
  · rw [Ideal.fptosi, Ideal.toIntClamped_coe]
    norm_num
  · rw [Ideal.fptosi, Ideal.toIntClamped_coe]
    norm_num
    decide

/-- A comparison of two positions, converted to a float and back to a word. -/
theorem as_float (e i : Fin 64) :
    FloatOps.fptosi 32 (FloatOps.uitofp (F := Ideal) FTy.f32 (IntOp.cmpi .eq (BitVec.ofNat 32 i.val) (BitVec.ofNat 32 e.val))) = hot e i := by
  show Ideal.fptosi 32 (((IntOp.cmpi .eq (BitVec.ofNat 32 i.val) (BitVec.ofNat 32 e.val)).toNat : ℝ) : EReal) = _
  unfold IntOp.cmpi hot
  rw [float_bit]
  by_cases h : e = i
  · subst h
    simp
  · have h' : (BitVec.ofNat 32 i.val == BitVec.ofNat 32 e.val) = false := beq_false_of_ne fun h' => h (position_inj.1 h').symm
    simp [h, h']

end Cert.Router

end
-- ==== Proof.Block.lean ====
/-
  THE KERNEL'S BLOCK RESULTS AT AN INDEX, in terms of the block's rows of logits: the one-hot words mark the first position of a row's
  greatest logit, the top probability is one over the sum of the row's shifted exponentials, and a product block holds the products'
  sums of whichever of its four row blocks an index falls in.
-/
module

public import proofs.«01_k».proof.Proof.Words
public import proofs.«01_k».proof.Proof.Body
public import Idealize.ShloMosaic.Lib.Pointwise

@[expose] public section

set_option maxRecDepth 16384

noncomputable section

namespace Cert.KernelIdeal.Router

open Idealize.ShloMosaic Idealize.ShloMosaic.TcCoe Idealize.SL.Sem
open Cert.KernelIdeal Cert.KernelIdeal.Gen Cert.Router

/-- A row of a block of logits. -/
def rowOf (s : FVec Ideal S1024x64 .f32) (i : Fin 1024) : Fin 64 → EReal := fun e => s (ix2 i e)

theorem negInf : Ideal.ofBits .f32 4286578688#32 = ⊥ := by simp [Ideal.ofBits, Ideal.ieee]

theorem hot_at (s : FVec Ideal S1024x64 .f32) (i : Fin 1024) (e : Fin 64) {k : Fin 64} (hk : First (rowOf s i) k) :
    k0_pay3 (F := Ideal) s (ix2 i e) = hot e k := by
  pointwise [k0_pay3, k0_pay2, negInf]
  exact (congrArg (fun w => BitVec.setWidth 32 (IntOp.cmpi .eq (BitVec.ofNat 32 e.val) w)) (least_marked hk)).trans (widened e k)

theorem top_at (s : FVec Ideal S1024x64 .f32) (i : Fin 1024) :
    k0_pay4 (F := Ideal) s (ix1 i) = Ideal.div 1 (total (rowOf s i)) := by
  pointwise [k0_pay4, k0_pay2, negInf, total, weight, top, rowOf]

/-- Row `i` of a product block, when the four row blocks are the four quarters of the rows `X`. -/
theorem product_at (x0 x1 x2 x3 : FVec Ideal S256x4096 .f32) (w : FVec Ideal S4096x64 .f32) (X : Fin 1024 → Fin 4096 → EReal)
    (h0 : ∀ (a : Fin 256) k, x0 (ix2 a k) = X ⟨a.val, by omega⟩ k) (h1 : ∀ (a : Fin 256) k, x1 (ix2 a k) = X ⟨256 + a.val, by omega⟩ k)
    (h2 : ∀ (a : Fin 256) k, x2 (ix2 a k) = X ⟨512 + a.val, by omega⟩ k) (h3 : ∀ (a : Fin 256) k, x3 (ix2 a k) = X ⟨768 + a.val, by omega⟩ k)
    (i : Fin 1024) (e : Fin 64) :
    product (F := Ideal) x0 x1 x2 x3 w (ix2 i e) = ∑ k : Fin 4096, X i k * w (ix2 k e) := by
  pointwise [product, k0_pay1, k0_pay5, k0_pay6]
  by_cases c0 : i.val < 256
  · rw [dif_pos c0]
    exact Finset.sum_congr rfl fun k _ => by rw [h0]
  rw [dif_neg c0]
  by_cases c1 : i.val - 256 < 256
  · rw [dif_pos c1]
    exact Finset.sum_congr rfl fun k _ => by rw [h1]; congr 2; exact Fin.ext (by show 256 + (i.val - 256) = i.val; omega)
  rw [dif_neg c1]
  by_cases c2 : i.val - 256 - 256 < 256
  · rw [dif_pos c2]
    exact Finset.sum_congr rfl fun k _ => by rw [h2]; congr 2; exact Fin.ext (by show 512 + (i.val - 256 - 256) = i.val; omega)
  rw [dif_neg c2]
  exact Finset.sum_congr rfl fun k _ => by rw [h3]; congr 2; exact Fin.ext (by show 768 + (i.val - 256 - 256 - 256) = i.val; omega)

end Cert.KernelIdeal.Router

end
-- ==== Proof.Arrays.lean ====
/-
  THE RESULT ARRAYS. Point `t` of the grid (before the last) computes the logits of rows `1024 t … 1024 t + 1023`, and the point after it
  writes their block to each result; so after the grid each result array holds at a row what the block results say of that row.
-/
module

public import proofs.«01_k».proof.Proof.Block
public import proofs.«01_k».proof.Proof.Points
public import Idealize.ShloMosaic.Lib.Pipeline.ValueKit
public import Idealize.ShloMosaic.Lib.Claim

@[expose] public section

set_option maxRecDepth 16384

noncomputable section

namespace Cert.KernelIdeal.Router

open Idealize.ShloMosaic Idealize.ShloMosaic.TcCoe Idealize.SL.Sem
open Idealize.ShloMosaic.Pipeline (Dat)
open Cert.KernelIdeal Cert.KernelIdeal.Gen Cert.Router

variable (m : (ℓ : Loc nD τ sig) → Buf (Elt Ideal) ℓ)

/-- The argument arrays, -/
abbrev argX (c : Dev nD) : FVec Ideal S32768x4096 .f32 := m ((c : Thread nD τ).loc main_arg0)
abbrev argW (c : Dev nD) : FVec Ideal S64x4096 .f32 := m ((c : Thread nD τ).loc main_arg1)

/-- and the row of logits they give. -/
def logitRow (c : Dev nD) (i : Fin 32768) : Fin 64 → EReal := fun e => ∑ k : Fin 4096, argX m c (ix2 i k) * argW m c (ix2 e k)

/-- The blocks each window reads or writes at a point, in closed form. -/
theorem idx : ∀ t : Fin cfg0.N, win0_0.index t = ![min t.val 31 * 4, 0] ∧ win0_1.index t = ![min t.val 31 * 4 + 1, 0]
    ∧ win0_2.index t = ![min t.val 31 * 4 + 2, 0] ∧ win0_3.index t = ![min t.val 31 * 4 + 3, 0] ∧ win0_4.index t = ![0, 0]
    ∧ win0_5.index t = ![t.val - 1, 0] ∧ win0_6.index t = ![t.val - 1] ∧ win0_7.index t = ![t.val - 1, 0] ∧ t.val < 33 :=
  (by decide +kernel : ∀ t : Fin grid0.N, _)

/-- The results are written back from point 1 on. -/
theorem flush_late : ∀ t : Fin cfg0.N, ((cfg0.win 5).flush t = true → 1 ≤ t.val) ∧ ((cfg0.win 6).flush t = true → 1 ≤ t.val)
    ∧ ((cfg0.win 7).flush t = true → 1 ≤ t.val) :=
  (by decide +kernel : ∀ t : Fin grid0.N, _)

/-- The weights as the kernel reads them are the transposed argument. -/
theorem weights (c : Dev nD) : V m c main_call0_v0
    = transpose S4096x64 [1, 0] (m ((c : Thread nD τ).loc main_arg1)) transposes_S64x4096_S4096x64_1_0 := by
  show StableHlo.after hostOps0 _ _ = _
  after_results
  rfl

theorem weights_at (c : Dev nD) (t : Fin cfg0.N) (k : Fin 4096) (e : Fin 64) :
    (show EReal from iblk m c 4 t (ix2 k e)) = argW m c (ix2 e k) := by
  have h : (V m c main_call0_v0 : FVec Ideal S4096x64 .f32) (ix2 k e) = argW m c (ix2 e k) := by
    rw [weights m c]
    pointwise
  refine Eq.trans ?_ h
  blk_ext [iblk, idx t]

/-- The logits of a point before the last, at a row of its block. -/
theorem logitsAt_at (c : Dev nD) (t : Fin cfg0.N) (ht : t.val ≤ 31) (a : Fin 1024) (e : Fin 64) (i : Fin 32768)
    (hi : i.val = t.val * 1024 + a.val) : logitsAt m c t (ix2 a e) = logitRow m c i e := by
  obtain ⟨i0, i1, i2, i3, -⟩ := idx t
  have hm : min t.val 31 = t.val := min_eq_left ht
  rw [hm] at i0 i1 i2 i3
  unfold logitsAt
  refine (product_at _ _ _ _ _ (fun a k => argX m c (ix2 ⟨t.val * 1024 + a.val, by omega⟩ k)) ?_ ?_ ?_ ?_ a e).trans ?_
  · intro a k; blk_ext [iblk, V, i0]
  · intro a k; blk_ext [iblk, V, i1]
  · intro a k; blk_ext [iblk, V, i2]
  · intro a k; blk_ext [iblk, V, i3]
  · have h : (⟨t.val * 1024 + a.val, by omega⟩ : Fin 32768) = i := Fin.ext hi.symm
    rw [h]
    exact Finset.sum_congr rfl fun k _ => congrArg _ (weights_at m c t k e)

/-- The logits a later point finds, row by row. -/
theorem before_row (c : Dev nD) (t : Fin cfg0.N) (ht : 1 ≤ t.val) (a : Fin 1024) (i : Fin 32768)
    (hi : i.val = (t.val - 1) * 1024 + a.val) : rowOf (logitsBefore m c t) a = logitRow m c i := by
  have h33 : t.val < 33 := (idx t).2.2.2.2.2.2.2.2
  funext e
  exact logitsAt_at m c ⟨t.val - 1, _⟩ (by show t.val - 1 ≤ 31; omega) a e i hi

/-- The first position of a greatest logit of a row. -/
def choice (c : Dev nD) (i : Fin 32768) : Fin 64 := Classical.choose (exists_first (logitRow m c i))

theorem choice_first (c : Dev nD) (i : Fin 32768) : First (logitRow m c i) (choice m c i) := Classical.choose_spec (exists_first _)

/-- The one-hot result. -/
theorem hot_array (c : Dev nD) : (dats m 0 c).arrAt 5 (cfgs 0).N
    = fun j : S32768x64.Idx => hot (j 1) (choice m c (j 0)) := by
  refine (dats m 0 c).arrAt_eq_of_covers 5 _ (by decide +kernel) fun t hf y => ?_
  have ht := (flush_late t).1 hf
  blk_simp
  rw [after5]
  obtain ⟨-, -, -, -, -, i5, -, -, h33⟩ := idx t
  idx_vars y
  rw [hot_at _ y0 y1 (k := choice m c ((win0_5.blk t).view.emb (ix2 y0 y1) 0))]
  · congr 1
    apply Fin.ext
    blk_simp [i5]
  · rw [before_row m c t ht y0 ((win0_5.blk t).view.emb (ix2 y0 y1) 0)]
    · exact choice_first m c _
    · blk_simp [i5]

/-- The top probabilities. -/
theorem top_array (c : Dev nD) : (dats m 0 c).arrAt 6 (cfgs 0).N
    = fun j : S32768.Idx => Ideal.div 1 (total (logitRow m c (j 0))) := by
  refine (dats m 0 c).arrAt_eq_of_covers 6 _ (by decide +kernel) fun t hf y => ?_
  have ht := (flush_late t).2.1 hf
  blk_simp
  rw [after6]
  obtain ⟨-, -, -, -, -, -, i6, -, h33⟩ := idx t
  idx_vars y
  rw [top_at, before_row m c t ht y0 ((win0_6.blk t).view.emb (ix1 y0) 0)]
  blk_simp [i6]

/-- The logits. -/
theorem logits_array (c : Dev nD) : (dats m 0 c).arrAt 7 (cfgs 0).N
    = fun j : S32768x64.Idx => logitRow m c (j 0) (j 1) := by
  refine (dats m 0 c).arrAt_eq_of_covers 7 _ (by decide +kernel) fun t hf y => ?_
  have ht := (flush_late t).2.2 hf
  blk_simp
  rw [after7]
  obtain ⟨-, -, -, -, -, -, -, i7, h33⟩ := idx t
  idx_vars y
  refine (congrFun (before_row m c t ht y0 ((win0_7.blk t).view.emb (ix2 y0 y1) 0) ?_) y1).trans ?_
  · blk_simp [i7]
  · congr 1
    apply Fin.ext
    blk_simp [i7]

/-- The column of top probabilities: the vector of them, reshaped after the grid. -/
theorem top_column (c : Dev nD) : Pipeline.afterTail₀ cfgs (dats m) 0 (V0 m) [hostOps1] c main_v0_1
    = fun j : S32768x1.Idx => Ideal.div 1 (total (logitRow m c (j 0))) := by
  unfold Pipeline.afterTail₀
  show StableHlo.after hostOps1 _ _ = _
  after_results
  have h := (Pipeline.withArrays_arr_shared spec0 c (V0 m c) _ ((dats m 0 c).arrAt_sharedIn launch₀0.sharedIn (V0 m c) (A_eq m c) cfg0.N) 6).trans
    (top_array m c)
  funext j
  refine (congrArg (fun v : FVec Ideal S32768 .f32 => shapeCast S32768x1 v shapeCasts_S32768_S32768x1 j) h).trans ?_
  idx_vars j
  pointwise

end Cert.KernelIdeal.Router

end
-- ==== Proof.Reference.lean ====
/-
  THE REFERENCE'S RESULTS AT AN INDEX. The reference's composed terms over its two arguments, and what each holds at an index in terms
  of the row of logits there: the logits are the products' sums, the top probability is the greatest entry of the row's softmax, and the
  one-hot words mark the first position of a greatest logit when the row is of real numbers.
-/
module

public import proofs.«01_k».proof.Proof.Words
public import proofs.«01_k».proof.Proof.Gen.ReferenceIdeal
public import Idealize.ShloMosaic.Lib.Pointwise

@[expose] public section

set_option maxRecDepth 16384

noncomputable section

namespace Cert.ReferenceIdeal.Router

open Idealize.ShloMosaic Idealize.ShloMosaic.TcCoe Idealize.SL.Sem
open Cert.ReferenceIdeal Cert.Router

/-- The logits. -/
def logits (x : FVec Ideal S32768x4096 .f32) (w : FVec Ideal S64x4096 .f32) : FVec Ideal S32768x64 .f32 :=
  Host.dotGeneral dot_S32768x4096_S4096x64_S32768x64_1_0_0_1_n_n none x
    (transpose S4096x64 [1, 0] w Gen.transposes_S64x4096_S4096x64_1_0)

/-- The greatest logit of each row. -/
def rowMax (l : FVec Ideal S32768x64 .f32) : FVec Ideal S32768 .f32 :=
  maximumf (broadcastInDim S32768 ![] Gen.bcast_S_S32768 (constant S_ .f32 0xFF800000#32))
    (Host.reduce FloatOps.maximumf l (constant S_ .f32 0xFF800000#32) Gen.reducesTo_S32768x64_S32768_d1 Gen.h_S_)

/-- The exponentials of the logits less a value of their row. -/
def shiftedBy (l : FVec Ideal S32768x64 .f32) (r : FVec Ideal S32768 .f32) : FVec Ideal S32768x64 .f32 :=
  Host.exp (subf l (broadcastInDim S32768x64 ![0, 1] Gen.bcast_S32768x1_S32768x64_0_1
    (broadcastInDim S32768x1 ![0] Gen.bcast_S32768_S32768x1_0 r)))

/-- The exponentials of the logits less their row's greatest one. -/
def shifted (l : FVec Ideal S32768x64 .f32) : FVec Ideal S32768x64 .f32 := shiftedBy l (rowMax l)

/-- The softmax. -/
def softmax (l : FVec Ideal S32768x64 .f32) : FVec Ideal S32768x64 .f32 :=
  Host.divf (shifted l) (broadcastInDim S32768x64 ![0, 1] Gen.bcast_S32768x1_S32768x64_0_1
    (broadcastInDim S32768x1 ![0] Gen.bcast_S32768_S32768x1_0
      (Host.reduceAdd (shifted l) (constant S_ .f32 0x00000000#32) Gen.reducesTo_S32768x64_S32768_d1 Gen.h_S_)))

/-- The top probabilities of probabilities `p`. -/
def topProb (p : FVec Ideal S32768x64 .f32) : FVec Ideal S32768x1 .f32 :=
  broadcastInDim S32768x1 ![0] Gen.bcast_S32768_S32768x1_0
    (Host.reduce FloatOps.maximumf p (constant S_ .f32 0xFF800000#32) Gen.reducesTo_S32768x64_S32768_d1 Gen.h_S_)

/-- The chosen positions of probabilities `p`. -/
def chosen (p : FVec Ideal S32768x64 .f32) : IVec S32768 32 :=
  pick Gen.reducesTo_S32768x64_S32768_d1 Gen.h_S_ p (iotaInDim S32768x64 32 1) (constant (F := Ideal) S_ .f32 0xFF800000#32)
    (constantI S_ 32 0#32)

/-- The one-hot words of positions `c`. -/
def oneHot (c : IVec S32768 32) : IVec S32768x64 32 :=
  fptosi 32 (uitofp (F := Ideal) .f32 (cmpi .eq
    (broadcastInDim S32768x64 ![0, 1] Gen.bcast_S32768x1_S32768x64_0_1
      (broadcastInDim S32768x1 ![0] Gen.bcast_S32768_S32768x1_0 c))
    (broadcastInDim S32768x64 ![0, 1] Gen.bcast_S1x64_S32768x64_0_1 (iotaInDim S1x64 32 1))))

/-- The row of an array. -/
def rowOf (l : FVec Ideal S32768x64 .f32) (i : Fin 32768) : Fin 64 → EReal := fun e => l (ix2 i e)

theorem negInf : Ideal.ofBits .f32 4286578688#32 = ⊥ := by simp [Ideal.ofBits, Ideal.ieee]

theorem logits_at (x : FVec Ideal S32768x4096 .f32) (w : FVec Ideal S64x4096 .f32) (i : Fin 32768) (e : Fin 64) :
    logits x w (ix2 i e) = ∑ k : Fin 4096, x (ix2 i k) * w (ix2 e k) := by
  pointwise [logits]

theorem rowMax_at (l : FVec Ideal S32768x64 .f32) (i : Fin 32768) : rowMax l (ix1 i) = top (rowOf l i) :=
  (maximumf_bot _ _ _ negInf).trans
    (max_row Gen.reducesTo_S32768x64_S32768_d1 Gen.h_S_ l (constant (F := Ideal) S_ .f32 0xFF800000#32) i negInf)

theorem shiftedBy_at (l : FVec Ideal S32768x64 .f32) (r : FVec Ideal S32768 .f32) (i : Fin 32768) (e : Fin 64) :
    shiftedBy l r (ix2 i e) = Ideal.exp (l (ix2 i e) - r (ix1 i)) := by
  pointwise [shiftedBy]

theorem shifted_at (l : FVec Ideal S32768x64 .f32) (i : Fin 32768) (e : Fin 64) :
    shifted l (ix2 i e) = weight (rowOf l i) e := by
  unfold shifted
  rw [shiftedBy_at, rowMax_at]
  rfl

theorem softmax_at (l : FVec Ideal S32768x64 .f32) (i : Fin 32768) (e : Fin 64) :
    softmax l (ix2 i e) = prob (rowOf l i) e := by
  pointwise [softmax, prob, total, shifted_at]

theorem topProb_at (p : FVec Ideal S32768x64 .f32) (i : Fin 32768) (z : Fin 1) :
    topProb p (ix2 i z) = top (rowOf p i) := by
  pointwise [topProb, negInf, top, rowOf]

theorem oneHot_at (c : IVec S32768 32) (i : Fin 32768) (e k : Fin 64) (h : c (ix1 i) = BitVec.ofNat 32 k.val) :
    oneHot c (ix2 i e) = hot e k := by
  pointwise [oneHot, h]
  exact as_float e k

theorem chosen_at (p : FVec Ideal S32768x64 .f32) (i : Fin 32768) (hp : ∀ e, ⊥ < rowOf p i e) {k : Fin 64} (hk : First (rowOf p i) k) :
    chosen p (ix1 i) = BitVec.ofNat 32 k.val :=
  argmax_row Gen.reducesTo_S32768x64_S32768_d1 Gen.h_S_ p (iotaInDim S32768x64 32 1) (constant (F := Ideal) S_ .f32 0xFF800000#32)
    (constantI S_ 32 0#32) i negInf (fun _ => rfl) hp hk

end Cert.ReferenceIdeal.Router

end
-- ==== Proof.Finite.lean ====
/-
  WHAT THE PRECONDITION GIVES. When every entry of both arguments is below +∞ in absolute value, every entry is a real number, and so is
  every logit.
-/
module

public import proofs.«01_k».proof.Proof.Row
public import proofs.«01_k».proof.Pre_all_finite
public import Idealize.ShloMosaic.PureOps.Reduce

@[expose] public section

set_option maxRecDepth 16384

noncomputable section

namespace Cert.Router

open Idealize.ShloMosaic

/-- A conjunction of bits that is one has every bit one. -/
theorem fold_and {ι : Type} [DecidableEq ι] (b : BitVec 1) (v : ι → BitVec 1) (s : Finset ι) :
    s.fold IntOp.andi b v = 1#1 → ∀ i ∈ s, v i = 1#1 := by
  induction s using Finset.induction_on with
  | empty => exact fun _ i hi => absurd hi (Finset.notMem_empty i)
  | insert a s ha ih =>
    rw [Finset.fold_insert ha]
    intro h i hi
    have key : ∀ p q : BitVec 1, IntOp.andi p q = 1#1 → p = 1#1 ∧ q = 1#1 := by decide
    obtain ⟨h1, h2⟩ := key _ _ h
    rcases Finset.mem_insert.1 hi with rfl | hi
    · exact h1
    · exact ih h2 i hi

/-- A reduction by conjunction over all axes that is one has every operand bit one. -/
theorem reduce_and {s u : Shape} {axes : List (Fin s.rank)} (x : IVec s 1) (b : IVec u 1) (h : s.ReducesTo axes ⟨0, ![]⟩)
    (hu : 0 < u.numel) (j : Shape.Idx ⟨0, ![]⟩) (hr : Host.reduce IntOp.andi x b h hu j = 1#1) (i : s.Idx) : x i = 1#1 := by
  classical
  rw [Host.reduce_eq_fold] at hr
  exact fold_and _ _ _ hr i (Finset.mem_filter.2 ⟨Finset.mem_univ i, funext fun a => a.elim0⟩)

theorem posInf : Ideal.ofBits .f32 0x7F800000#32 = ⊤ := by simp [Ideal.ofBits, Ideal.ieee]

/-- An extended real below +∞ in absolute value is a real number. -/
theorem real_of_abs_lt (a : EReal) (h : Ideal.cmp .olt (max a (-a)) ⊤ = 1#1) : ∃ r : ℝ, a = (r : EReal) := by
  induction a with
  | bot => simp [Ideal.cmp] at h
  | coe r => exact ⟨r, rfl⟩
  | top => simp [Ideal.cmp] at h

/-- The precondition makes every entry of both arguments a real number. -/
theorem entries_real [Pre_all_finite.Facts] (x : FVec Ideal Pre_all_finite.S32768x4096 .f32) (w : FVec Ideal Pre_all_finite.S64x4096 .f32)
    (h : Pre_all_finite.fn (F := Ideal) x w = fun _ => 1#1) :
    (∀ i, ∃ r : ℝ, x i = (r : EReal)) ∧ ∀ i, ∃ r : ℝ, w i = (r : EReal) := by
  have key : ∀ p q : BitVec 1, IntOp.andi p q = 1#1 → p = 1#1 ∧ q = 1#1 := by decide
  obtain ⟨hx, hw⟩ := key _ _ (congrFun h (fun a => a.elim0))
  refine ⟨fun i => real_of_abs_lt _ ?_, fun i => real_of_abs_lt _ ?_⟩
  · rw [← posInf]
    exact reduce_and _ _ _ _ _ hx i
  · rw [← posInf]
    exact reduce_and _ _ _ _ _ hw i

/-- A sum of products of real numbers is one. -/
theorem sum_real {n : Nat} (x w : Fin n → EReal) (hx : ∀ k, ∃ r : ℝ, x k = (r : EReal)) (hw : ∀ k, ∃ r : ℝ, w k = (r : EReal)) :
    ∃ r : ℝ, ∑ k, x k * w k = (r : EReal) := by
  choose a ha using hx
  choose b hb using hw
  refine ⟨∑ k, a k * b k, ?_⟩
  rw [Finset.sum_congr rfl fun k _ => show x k * w k = ((a k * b k : ℝ) : EReal) by rw [ha, hb, EReal.coe_mul]]
  exact (map_sum (⟨⟨Real.toEReal, EReal.coe_zero⟩, EReal.coe_add⟩ : ℝ →+ EReal) _ _).symm

end Cert.Router

end
-- ==== Proof.Agree.lean ====
/-
  THE REFERENCE'S RESULTS AS ROW FUNCTIONS. Over arguments of real numbers the reference's three results are, at each row, the row of
  logits itself, one over the sum of its shifted exponentials, and the one-hot words of its first greatest entry.
-/
module

public import proofs.«01_k».proof.Proof.Reference
public import proofs.«01_k».proof.Proof.Finite

@[expose] public section

set_option maxRecDepth 16384

noncomputable section

namespace Cert.ReferenceIdeal.Router

open Idealize.ShloMosaic Idealize.ShloMosaic.TcCoe Idealize.SL.Sem
open Cert.ReferenceIdeal Cert.Router

variable (x : FVec Ideal S32768x4096 .f32) (w : FVec Ideal S64x4096 .f32)

/-- The row of logits of two arguments. -/
def row (i : Fin 32768) : Fin 64 → EReal := fun e => ∑ k : Fin 4096, x (ix2 i k) * w (ix2 e k)

theorem rowOf_logits (i : Fin 32768) : rowOf (logits x w) i = row x w i := funext fun e => logits_at x w i e

theorem rowOf_softmax (i : Fin 32768) : rowOf (softmax (logits x w)) i = prob (row x w i) := by
  rw [← rowOf_logits x w i]
  exact funext fun e => softmax_at (logits x w) i e

theorem logits_eq : logits x w = fun j : S32768x64.Idx => row x w (j 0) (j 1) := by
  funext j
  idx_vars j
  exact logits_at x w j0 j1

variable (hx : ∀ i, ∃ r : ℝ, x i = (r : EReal)) (hw : ∀ i, ∃ r : ℝ, w i = (r : EReal))

include hx hw

theorem row_real (i : Fin 32768) : ∃ r : Fin 64 → ℝ, ∀ e, row x w i e = (r e : EReal) := by
  have h : ∀ e, ∃ r : ℝ, row x w i e = (r : EReal) := fun e =>
    sum_real (fun k : Fin 4096 => x (ix2 i k)) (fun k => w (ix2 e k)) (fun k => hx _) fun k => hw _
  choose r hr using h
  exact ⟨r, hr⟩

theorem topProb_eq : topProb (softmax (logits x w)) = fun j : S32768x1.Idx => Ideal.div 1 (total (row x w (j 0))) := by
  funext j
  idx_vars j
  obtain ⟨r, hr⟩ := row_real x w hx hw j0
  refine (topProb_at _ j0 j1).trans ?_
  rw [rowOf_softmax]
  exact top_prob hr

theorem oneHot_eq (k : Fin 32768 → Fin 64) (hk : ∀ i, First (row x w i) (k i)) :
    oneHot (chosen (softmax (logits x w))) = fun j : S32768x64.Idx => hot (j 1) (k (j 0)) := by
  funext j
  idx_vars j
  obtain ⟨r, hr⟩ := row_real x w hx hw j0
  refine oneHot_at _ j0 j1 (k j0) (chosen_at _ j0 (fun e => ?_) ?_)
  · rw [rowOf_softmax]
    exact bot_lt_prob hr e
  · rw [rowOf_softmax]
    exact (hk j0).prob hr

end Cert.ReferenceIdeal.Router

end
-- ==== Proof.lean ====
/-
  The proof of `Cert.Claim`, claim by claim.
-/
module

public import proofs.«01_k».proof.Defs
public import proofs.«01_k».proof.Proof.Frame
public import proofs.«01_k».proof.Proof.KernelFrame
public import proofs.«01_k».proof.Proof.Arrays
public import proofs.«01_k».proof.Proof.Agree
public import Idealize.ShloMosaic.Lib.Claim

@[expose] public section

set_option maxRecDepth 16384

noncomputable section

namespace Cert.Proof

open Idealize.ShloMosaic Idealize.ShloMosaic.TcCoe Idealize.SL.Sem

/-- What the precondition states of the shapes it reads. -/
theorem preFacts : Cert.Pre_all_finite.Facts := by
  constructor <;> decide

/-- The kernel at the machine's floats ends, keeps its arguments and leaves every semaphore at zero. -/
theorem quiescent_Kernel : Cert.quiescent_Kernel := fun m g _ => Cert.Kernel.Router.kept m g

/-- So does the kernel over the extended reals, -/
theorem quiescent_KernelIdeal : Cert.quiescent_KernelIdeal := fun m g _ => Cert.KernelIdeal.Router.kept m g

/-- in particular on finite arguments, -/
theorem quiescent_KernelIdeal_pre (h : Cert.Pre_all_finite.Facts) : Cert.quiescent_KernelIdeal_pre_all_finite :=
  fun m g _ => Cert.KernelIdeal.Router.kept m g

set_option maxHeartbeats 1600000 in
/-- and so does the reference, which has host lines only and no semaphore, -/
theorem quiescent_ReferenceIdeal : Cert.quiescent_ReferenceIdeal := fun m g _ => by
  hlo_run
  all_goals first
    | exact sem_eq_zero_of_no_sems (sig := Cert.ReferenceIdeal.sig) (by decide) _
    | exact fun _ => ⟨trivial, trivial⟩

/-- in particular on finite arguments. -/
theorem quiescent_ReferenceIdeal_pre (h : Cert.Pre_all_finite.Facts) : Cert.quiescent_ReferenceIdeal_pre_all_finite :=
  fun m g _ => quiescent_ReferenceIdeal m g trivial

section Entries

variable [Cert.Pre_all_finite.Facts]
  (m : (ℓ : Loc KernelIdeal.nD KernelIdeal.τ KernelIdeal.sig) → Buf (Elt Ideal) ℓ) (hpre : Cert.Pre_KernelIdeal_all_finite m)
  (c : Dev KernelIdeal.nD)

include hpre

/-- Under the precondition the entries of the tokens are real numbers, -/
theorem entries_x (i : ReferenceIdeal.S32768x4096.Idx) : ∃ r : ℝ, KernelIdeal.Router.argX m c i = (r : EReal) :=
  (Cert.Router.entries_real _ _ (hpre c)).1 i

/-- and so are those of the weights. -/
theorem entries_w (i : ReferenceIdeal.S64x4096.Idx) : ∃ r : ℝ, KernelIdeal.Router.argW m c i = (r : EReal) :=
  (Cert.Router.entries_real _ _ (hpre c)).2 i

end Entries

set_option maxHeartbeats 1600000 in
/-- On finite arguments kernel and reference end with the same three results: the one-hot of the chosen expert, its probability, and the
    logits. The kernel's arrays are read off its run, the reference's off its host lines, and the two meet in what each row of logits gives. -/
theorem algebraic (h : Cert.Pre_all_finite.Facts) : Cert.algebraic_KernelIdeal_ReferenceIdeal_pre_all_finite := by
  pair_intro
  · run_from (Cert.KernelIdeal.Router.run (F := Ideal)) m g
    · exact (hc.1 c).1 5
    · exact (hc.1 c).2 Cert.KernelIdeal.main_v0_1 (Pipeline.mem_restRefs_of Cert.KernelIdeal.main_v0_1 (by decide) (by decide))
    · exact (hc.1 c).1 7
    · exact ((hc.1 c).1 3).trans (((Cert.KernelIdeal.Router.dats m 0 c).arrAt_in 3 rfl _).trans
        ((Cert.KernelIdeal.Router.A_eq m c 3).trans (Cert.KernelIdeal.Gen.V_main_arg0 m c)))
    · exact ((hc.1 c).2 Cert.KernelIdeal.main_arg1 (Pipeline.mem_restRefs_of Cert.KernelIdeal.main_arg1 (by decide) (by decide))).trans
        (Cert.KernelIdeal.Gen.W_main_arg1 m (Cert.KernelIdeal.Router.dats m) c)
  · hlo_run
    · refine Eq.trans ?_ (Cert.KernelIdeal.Router.hot_array m c).symm
      simp -implicitDefEqProofs only [StableHlo.TRef.toBuf, StableHlo.TRef.ofBuf, cast_cast, cast_eq]
      exact Cert.ReferenceIdeal.Router.oneHot_eq _ _ (entries_x m hpre c) (entries_w m hpre c) _
        fun i => Cert.KernelIdeal.Router.choice_first m c i
    · refine Eq.trans ?_ (Cert.KernelIdeal.Router.top_column m c).symm
      exact Cert.ReferenceIdeal.Router.topProb_eq _ _ (entries_x m hpre c) (entries_w m hpre c)
    · refine Eq.trans ?_ (Cert.KernelIdeal.Router.logits_array m c).symm
      exact Cert.ReferenceIdeal.Router.logits_eq _ _

/-- All five claims. -/
theorem claim : Cert.Claim := ⟨Cert.Kernel.Gen.facts, Cert.KernelIdeal.Gen.facts, Cert.ReferenceIdeal.Gen.facts, preFacts, quiescent_Kernel,
  quiescent_KernelIdeal, quiescent_KernelIdeal_pre preFacts, quiescent_ReferenceIdeal, quiescent_ReferenceIdeal_pre preFacts, trivial,
  algebraic preFacts⟩

end Cert.Proof

end
